-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 1024]⟩ ⟨2, ![65536, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x512x1024 : Shape := ⟨3, ![2, 512, 1024]⟩
abbrev S1x1024 : Shape := ⟨2, ![1, 1024]⟩
abbrev S7x1x1024 : Shape := ⟨3, ![7, 1, 1024]⟩
abbrev S2 : Shape := ⟨1, ![2]⟩
abbrev S7 : Shape := ⟨1, ![7]⟩
abbrev S_ : Shape := ⟨0, ![]⟩
abbrev S512x512 : Shape := ⟨2, ![512, 512]⟩
abbrev S1 : Shape := ⟨1, ![1]⟩
abbrev S1x512x1024 : Shape := ⟨3, ![1, 512, 1024]⟩
abbrev S512x1024 : Shape := ⟨2, ![512, 1024]⟩
abbrev S1x1x1024 : Shape := ⟨3, ![1, 1, 1024]⟩
abbrev S7x1x1 : Shape := ⟨3, ![7, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S8192x1024, .f32⟩
  | .local _ .vmem, ⟨1, _⟩ => ⟨S2x512x1024, .f32⟩
  | .local _ .vmem, ⟨2, _⟩ => ⟨S1x1024, .f32⟩
  | .local _ .vmem, ⟨3, _⟩ => ⟨S7x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_322 : BitVec 32 := 1#32
  let v376 : BitVec 32 := Scalar.addi v2 c1_i32_322
  let c8_i32_323 : BitVec 32 := 8#32
  let c0_i32_324 : BitVec 32 := 0#32
  let v377 : BitVec 1 := Scalar.cmpi .eq c8_i32_323 c0_i32_324
  let c1_i32_325 : BitVec 32 := 1#32
  let v378 : BitVec 32 := Scalar.select v377 c1_i32_325 c8_i32_323
  let v379 : BitVec 32 := Scalar.remsi v376 v378
  let c0_i32_327 : BitVec 32 := 0#32
  let v381 : BitVec 1 := Scalar.cmpi .slt v379 c0_i32_327
  let c0_i32_328 : BitVec 32 := 0#32
  let v382 : BitVec 1 := Scalar.cmpi .slt v378 c0_i32_328
  let v383 : BitVec 1 := Scalar.xori v381 v382
  let c0_i32_326 : BitVec 32 := 0#32
  let v380 : BitVec 1 := Scalar.cmpi .ne v379 c0_i32_326
  let v384 : BitVec 1 := Scalar.andi v383 v380
  let v385 : BitVec 32 := Scalar.addi v379 v378
  let v386 : BitVec 32 := Scalar.select v384 v385 v379
  let c1_i32_332 : BitVec 32 := 1#32
  let v387 : BitVec 32 := Scalar.muli v386 c1_i32_332
  let v388 : BitVec 32 := Scalar.addi c0_i32_333 v387
  v388.toNat
def k0_dev9 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_336 : BitVec 32 := 2#32
  let v395 : BitVec 32 := Scalar.addi v2 c2_i32_336
  let c8_i32_337 : BitVec 32 := 8#32
  let c0_i32_338 : BitVec 32 := 0#32
  let v396 : BitVec 1 := Scalar.cmpi .eq c8_i32_337 c0_i32_338
  let c1_i32_339 : BitVec 32 := 1#32
  let v397 : BitVec 32 := Scalar.select v396 c1_i32_339 c8_i32_337
  let v398 : BitVec 32 := Scalar.remsi v395 v397
  let c0_i32_341 : BitVec 32 := 0#32
  let v400 : BitVec 1 := Scalar.cmpi .slt v398 c0_i32_341
  let c0_i32_342 : BitVec 32 := 0#32
  let v401 : BitVec 1 := Scalar.cmpi .slt v397 c0_i32_342
  let v402 : BitVec 1 := Scalar.xori v400 v401
  let c0_i32_340 : BitVec 32 := 0#32
  let v399 : BitVec 1 := Scalar.cmpi .ne v398 c0_i32_340
  let v403 : BitVec 1 := Scalar.andi v402 v399
  let v404 : BitVec 32 := Scalar.addi v398 v397
  let v405 : BitVec 32 := Scalar.select v403 v404 v398
  let c1_i32_346 : BitVec 32 := 1#32
  let v406 : BitVec 32 := Scalar.muli v405 c1_i32_346
  let v407 : BitVec 32 := Scalar.addi c0_i32_347 v406
  v407.toNat
def k0_dev10 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_350 : BitVec 32 := 3#32
  let v414 : BitVec 32 := Scalar.addi v2 c3_i32_350
  let c8_i32_351 : BitVec 32 := 8#32
  let c0_i32_352 : BitVec 32 := 0#32
  let v415 : BitVec 1 := Scalar.cmpi .eq c8_i32_351 c0_i32_352
  let c1_i32_353 : BitVec 32 := 1#32
  let v416 : BitVec 32 := Scalar.select v415 c1_i32_353 c8_i32_351
  let v417 : BitVec 32 := Scalar.remsi v414 v416
  let c0_i32_355 : BitVec 32 := 0#32
  let v419 : BitVec 1 := Scalar.cmpi .slt v417 c0_i32_355
  let c0_i32_356 : BitVec 32 := 0#32
  let v420 : BitVec 1 := Scalar.cmpi .slt v416 c0_i32_356
  let v421 : BitVec 1 := Scalar.xori v419 v420
  let c0_i32_354 : BitVec 32 := 0#32
  let v418 : BitVec 1 := Scalar.cmpi .ne v417 c0_i32_354
  let v422 : BitVec 1 := Scalar.andi v421 v418
  let v423 : BitVec 32 := Scalar.addi v417 v416
  let v424 : BitVec 32 := Scalar.select v422 v423 v417
  let c1_i32_360 : BitVec 32 := 1#32
  let v425 : BitVec 32 := Scalar.muli v424 c1_i32_360
  let v426 : BitVec 32 := Scalar.addi c0_i32_361 v425
  v426.toNat
def k0_dev11 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_364 : BitVec 32 := 4#32
  let v433 : BitVec 32 := Scalar.addi v2 c4_i32_364
  let c8_i32_365 : BitVec 32 := 8#32
  let c0_i32_366 : BitVec 32 := 0#32
  let v434 : BitVec 1 := Scalar.cmpi .eq c8_i32_365 c0_i32_366
  let c1_i32_367 : BitVec 32 := 1#32
  let v435 : BitVec 32 := Scalar.select v434 c1_i32_367 c8_i32_365
  let v436 : BitVec 32 := Scalar.remsi v433 v435
  let c0_i32_369 : BitVec 32 := 0#32
  let v438 : BitVec 1 := Scalar.cmpi .slt v436 c0_i32_369
  let c0_i32_370 : BitVec 32 := 0#32
  let v439 : BitVec 1 := Scalar.cmpi .slt v435 c0_i32_370
  let v440 : BitVec 1 := Scalar.xori v438 v439
  let c0_i32_368 : BitVec 32 := 0#32
  let v437 : BitVec 1 := Scalar.cmpi .ne v436 c0_i32_368
  let v441 : BitVec 1 := Scalar.andi v440 v437
  let v442 : BitVec 32 := Scalar.addi v436 v435
  let v443 : BitVec 32 := Scalar.select v441 v442 v436
  let c1_i32_374 : BitVec 32 := 1#32
  let v444 : BitVec 32 := Scalar.muli v443 c1_i32_374
  let v445 : BitVec 32 := Scalar.addi c0_i32_375 v444
  v445.toNat
def k0_dev12 (d0 : Dev nD) : Nat :=
  let c0_i32_389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_378 : BitVec 32 := 5#32
  let v452 : BitVec 32 := Scalar.addi v2 c5_i32_378
  let c8_i32_379 : BitVec 32 := 8#32
  let c0_i32_380 : BitVec 32 := 0#32
  let v453 : BitVec 1 := Scalar.cmpi .eq c8_i32_379 c0_i32_380
  let c1_i32_381 : BitVec 32 := 1#32
  let v454 : BitVec 32 := Scalar.select v453 c1_i32_381 c8_i32_379
  let v455 : BitVec 32 := Scalar.remsi v452 v454
  let c0_i32_383 : BitVec 32 := 0#32
  let v457 : BitVec 1 := Scalar.cmpi .slt v455 c0_i32_383
  let c0_i32_384 : BitVec 32 := 0#32
  let v458 : BitVec 1 := Scalar.cmpi .slt v454 c0_i32_384
  let v459 : BitVec 1 := Scalar.xori v457 v458
  let c0_i32_382 : BitVec 32 := 0#32
  let v456 : BitVec 1 := Scalar.cmpi .ne v455 c0_i32_382
  let v460 : BitVec 1 := Scalar.andi v459 v456
  let v461 : BitVec 32 := Scalar.addi v455 v454
  let v462 : BitVec 32 := Scalar.select v460 v461 v455
  let c1_i32_388 : BitVec 32 := 1#32
  let v463 : BitVec 32 := Scalar.muli v462 c1_i32_388
  let v464 : BitVec 32 := Scalar.addi c0_i32_389 v463
  v464.toNat
def k0_dev13 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_392 : BitVec 32 := 6#32
  let v471 : BitVec 32 := Scalar.addi v2 c6_i32_392
  let c8_i32_393 : BitVec 32 := 8#32
  let c0_i32_394 : BitVec 32 := 0#32
  let v472 : BitVec 1 := Scalar.cmpi .eq c8_i32_393 c0_i32_394
  let c1_i32_395 : BitVec 32 := 1#32
  let v473 : BitVec 32 := Scalar.select v472 c1_i32_395 c8_i32_393
  let v474 : BitVec 32 := Scalar.remsi v471 v473
  let c0_i32_397 : BitVec 32 := 0#32
  let v476 : BitVec 1 := Scalar.cmpi .slt v474 c0_i32_397
  let c0_i32_398 : BitVec 32 := 0#32
  let v477 : BitVec 1 := Scalar.cmpi .slt v473 c0_i32_398
  let v478 : BitVec 1 := Scalar.xori v476 v477
  let c0_i32_396 : BitVec 32 := 0#32
  let v475 : BitVec 1 := Scalar.cmpi .ne v474 c0_i32_396
  let v479 : BitVec 1 := Scalar.andi v478 v475
  let v480 : BitVec 32 := Scalar.addi v474 v473
  let v481 : BitVec 32 := Scalar.select v479 v480 v474
  let c1_i32_402 : BitVec 32 := 1#32
  let v482 : BitVec 32 := Scalar.muli v481 c1_i32_402
  let v483 : BitVec 32 := Scalar.addi c0_i32_403 v482
  v483.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_406 : BitVec 32 := 7#32
  let v490 : BitVec 32 := Scalar.addi v2 c7_i32_406
  let c8_i32_407 : BitVec 32 := 8#32
  let c0_i32_408 : BitVec 32 := 0#32
  let v491 : BitVec 1 := Scalar.cmpi .eq c8_i32_407 c0_i32_408
  let c1_i32_409 : BitVec 32 := 1#32
  let v492 : BitVec 32 := Scalar.select v491 c1_i32_409 c8_i32_407
  let v493 : BitVec 32 := Scalar.remsi v490 v492
  let c0_i32_411 : BitVec 32 := 0#32
  let v495 : BitVec 1 := Scalar.cmpi .slt v493 c0_i32_411
  let c0_i32_412 : BitVec 32 := 0#32
  let v496 : BitVec 1 := Scalar.cmpi .slt v492 c0_i32_412
  let v497 : BitVec 1 := Scalar.xori v495 v496
  let c0_i32_410 : BitVec 32 := 0#32
  let v494 : BitVec 1 := Scalar.cmpi .ne v493 c0_i32_410
  let v498 : BitVec 1 := Scalar.andi v497 v494
  let v499 : BitVec 32 := Scalar.addi v493 v492
  let v500 : BitVec 32 := Scalar.select v498 v499 v493
  let c1_i32_416 : BitVec 32 := 1#32
  let v501 : BitVec 32 := Scalar.muli v500 c1_i32_416
  let v502 : BitVec 32 := Scalar.addi c0_i32_417 v501
  v502.toNat
@[reducible] def k0_t1_loop : Scf.Loop 32 :=
  let c0_i32_516 : BitVec 32 := 0#32
  let c16_i32 : BitVec 32 := 16#32
  let v590 : BitVec 32 := Scalar.addi c0_i32_516 c16_i32
  let c1_i32_517 : BitVec 32 := 1#32
  ⟨c0_i32_516, v590, c1_i32_517⟩
def k0_off1 (k0_t1 : Fin k0_t1_loop.trips) : Fin 2 → Nat :=
  let c0_i32_516 : BitVec 32 := 0#32
  let c1_i32_517 : BitVec 32 := 1#32
  let arg8 : BitVec 32 := Scf.iv c0_i32_516 c1_i32_517 k0_t1
  let c512_i32_519 : BitVec 32 := 512#32
  let v591 : BitVec 32 := Scalar.muli arg8 c512_i32_519
  let v592 : Index := Scalar.indexCast v591
  let c0_520 : Index := 0#32
  ![v592.toNat, 0]
abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S_, .f32⟩
  | .hbm, ⟨3, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Setup.lean ====
/-
# The ghost state, the mesh's arithmetic, the cells and the buffers

Every device of the mesh of eight runs the same body: it announces itself to the seven others, scans its own rows
block by block, sends its column totals to the seven others, and adds the totals of the devices before it. This module
fixes the resource algebra the proof is written in and names what the body touches: the device `k + 1` places on
(`tgt`) and `k + 1` places back (`src`), the row `k` of the landing buffer, the semaphores of copy `k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Exec
public import Idealize.ShloMosaic.Lib.Tactic

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the exchange: duties are named by a landing row. -/
abbrev UB : Type := URounds (GSem nD τ sig) (Fin 7)
/-- The launch library's rounds, the exchange's, and the counters of the local copies. -/
abbrev UU : Type := UR sig nD τ × (UB × Counters)

local notation "𝕄" => MT nD τ sig Unit (Elt F) ℕ UU ℕ

/-- The launch library's share of the algebra. -/
abbrev EP : Emb (UR sig nD τ) (MT nD τ sig Unit (Elt F) ℕ UU ℕ) := embL
/-- The exchange's share of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

omit [FloatOps F] in
/-- The exchange's ghost state lies in the launch's. -/
instance ER_landsIn : (ER : Emb UB 𝕄).LandsIn (upEmb : UEmb _ 𝕄) := by unfold ER; infer_instance

/-! ## The mesh -/

set_option backward.proofsInPublic true in
/-- The device `k + 1` places after `c`, around the mesh. -/
def tgt (c : Dev nD) (k : Fin 7) : Dev nD := ⟨(c.val + k.val + 1) % 8, Nat.mod_lt _ (by decide)⟩
set_option backward.proofsInPublic true in
/-- The device `k + 1` places before `c`, around the mesh. -/
def src (c : Dev nD) (k : Fin 7) : Dev nD := ⟨(c.val + 7 - k.val) % 8, Nat.mod_lt _ (by decide)⟩

/-- Going `k + 1` places on and back again leads home. -/
theorem src_tgt (c : Dev nD) (k : Fin 7) : src (tgt c k) k = c := by revert c k; decide
/-- Going `k + 1` places back and on again leads home. -/
theorem tgt_src (c : Dev nD) (k : Fin 7) : tgt (src c k) k = c := by revert c k; decide

/-- Going `k + 1` places on, as a permutation of the devices. -/
def hop (k : Fin 7) : Dev nD ≃ Dev nD := ⟨fun c => tgt c k, fun c => src c k, fun c => src_tgt c k, fun c => tgt_src c k⟩

/-- The row met when `i` payments are left: the rows are served in order, the first when seven are left. -/
abbrev rowLeft (i : ℕ) : Fin 7 := ⟨6 - i, by omega⟩

/-- Seven places on and as many as complete the round: back at the start. -/
theorem tgt_tgt (c : Dev nD) (k : Fin 7) : tgt (tgt c k) (Fin.rev k) = c := by revert c k; decide

/-- Signal 1 goes to the device 1 place on. -/
theorem dev1_eq (c : Dev nD) : (⟨k0_dev1 c, k0_dev1_lt c⟩ : Dev nD) = tgt c 0 := by revert c; decide +kernel
/-- Signal 2 goes to the device 2 places on. -/
theorem dev2_eq (c : Dev nD) : (⟨k0_dev2 c, k0_dev2_lt c⟩ : Dev nD) = tgt c 1 := by revert c; decide +kernel
/-- Signal 3 goes to the device 3 places on. -/
theorem dev3_eq (c : Dev nD) : (⟨k0_dev3 c, k0_dev3_lt c⟩ : Dev nD) = tgt c 2 := by revert c; decide +kernel
/-- Signal 4 goes to the device 4 places on. -/
theorem dev4_eq (c : Dev nD) : (⟨k0_dev4 c, k0_dev4_lt c⟩ : Dev nD) = tgt c 3 := by revert c; decide +kernel
/-- Signal 5 goes to the device 5 places on. -/
theorem dev5_eq (c : Dev nD) : (⟨k0_dev5 c, k0_dev5_lt c⟩ : Dev nD) = tgt c 4 := by revert c; decide +kernel
/-- Signal 6 goes to the device 6 places on. -/
theorem dev6_eq (c : Dev nD) : (⟨k0_dev6 c, k0_dev6_lt c⟩ : Dev nD) = tgt c 5 := by revert c; decide +kernel
/-- Signal 7 goes to the device 7 places on. -/
theorem dev7_eq (c : Dev nD) : (⟨k0_dev7 c, k0_dev7_lt c⟩ : Dev nD) = tgt c 6 := by revert c; decide +kernel
/-- Copy 1 goes to the device 1 place on. -/
theorem dev8_eq (c : Dev nD) : (⟨k0_dev8 c, k0_dev8_lt c⟩ : Dev nD) = tgt c 0 := by revert c; decide +kernel
/-- Copy 2 goes to the device 2 places on. -/
theorem dev9_eq (c : Dev nD) : (⟨k0_dev9 c, k0_dev9_lt c⟩ : Dev nD) = tgt c 1 := by revert c; decide +kernel
/-- Copy 3 goes to the device 3 places on. -/
theorem dev10_eq (c : Dev nD) : (⟨k0_dev10 c, k0_dev10_lt c⟩ : Dev nD) = tgt c 2 := by revert c; decide +kernel
/-- Copy 4 goes to the device 4 places on. -/
theorem dev11_eq (c : Dev nD) : (⟨k0_dev11 c, k0_dev11_lt c⟩ : Dev nD) = tgt c 3 := by revert c; decide +kernel
/-- Copy 5 goes to the device 5 places on. -/
theorem dev12_eq (c : Dev nD) : (⟨k0_dev12 c, k0_dev12_lt c⟩ : Dev nD) = tgt c 4 := by revert c; decide +kernel
/-- Copy 6 goes to the device 6 places on. -/
theorem dev13_eq (c : Dev nD) : (⟨k0_dev13 c, k0_dev13_lt c⟩ : Dev nD) = tgt c 5 := by revert c; decide +kernel
/-- Copy 7 goes to the device 7 places on. -/
theorem dev14_eq (c : Dev nD) : (⟨k0_dev14 c, k0_dev14_lt c⟩ : Dev nD) = tgt c 6 := by revert c; decide +kernel

/-! ## The buffers and the semaphores -/

/-- The device's rows of the argument, read in place. -/
abbrev xM : Memref sig .tc .hbm S8192x1024 .f32 := Memref.whole main_arg0
/-- The staging buffer of the result. -/
abbrev oM : Memref sig .tc .vmem S8192x1024 .f32 := Memref.whole cc0_stg0_0
/-- The two halves the blocks of rows are read into. -/
abbrev bM : Memref sig .tc .vmem S2x512x1024 .f32 := Memref.whole cc0_scratch0
/-- The device's column totals. -/
abbrev tM : Memref sig .tc .vmem S1x1024 .f32 := Memref.whole cc0_scratch1
/-- The seven rows the other devices' totals land in. -/
abbrev lM : Memref sig .tc .vmem S7x1x1024 .f32 := Memref.whole cc0_scratch2

/-- Row `k` lies inside the landing buffer. -/
theorem inb_row (k : Fin 7) : ∀ a, (![k.val, 0, 0] : Fin 3 → Nat) a + S1x1x1024.size a ≤ S7x1x1024.size a := by revert k; decide
/-- There is a semaphore for each of the seven copies. -/
theorem inb_sem (k : Fin 7) : ∀ a, (![k.val] : Fin 1 → Nat) a + S1.size a ≤ S7.size a := by revert k; decide

/-- Row `k` of the landing buffer, as a buffer of one row. -/
abbrev rowM (k : Fin 7) : Memref sig .tc .vmem S1x1024 .f32 :=
  (lM.slice (Rect.unit (s := S7x1x1024) ![k.val, 0, 0] S1x1x1024.size (inb_row k)) (fun _ => rfl)).squeeze S1x1024 squeezes_S1x1x1024_S1x1024

/-- The semaphore of the start-up handshake. -/
abbrev barS : Sem sig := (SemArray.scalar (sig.barrier 0 rfl) : Sems sig S_).sem
/-- The semaphores of copy `k`: the one its sender is told by, the one its receiver is told by. -/
abbrev sendS (k : Fin 7) : DmaSem sig := ((cc0_scratch4.slice (Rect.unit (s := S7) ![k.val] S1.size (inb_sem k))).squeeze S_ squeezes_S1_S_ : DmaSems sig S_).sem
/-- The semaphore by which the receiver of copy `k` is told. -/
abbrev recvS (k : Fin 7) : DmaSem sig := ((cc0_scratch5.slice (Rect.unit (s := S7) ![k.val] S1.size (inb_sem k))).squeeze S_ squeezes_S1_S_ : DmaSems sig S_).sem

/-- The cells: a semaphore on a device. -/
abbrev barCell (c : Dev nD) : GSem nD τ sig := ((c : Thread nD τ), .reg barS)
/-- The send cell `k` of device `c`. -/
abbrev sendCell (k : Fin 7) (c : Dev nD) : GSem nD τ sig := ((c : Thread nD τ), .dma (sendS k))
/-- The receive cell `k` of device `c`. -/
abbrev recvCell (k : Fin 7) (c : Dev nD) : GSem nD τ sig := ((c : Thread nD τ), .dma (recvS k))

/-- The seven send semaphores differ. -/
theorem sendS_inj : Function.Injective sendS := by decide
/-- The seven receive semaphores differ. -/
theorem recvS_inj : Function.Injective recvS := by decide
/-- A send semaphore is no receive semaphore. -/
theorem send_ne_recv (k k' : Fin 7) : sendS k ≠ recvS k' := by revert k k'; decide

/-- The units one landing row credits its semaphore with. -/
abbrev N : ℕ := (rowM 0).view.dmaCredit

end Cert.Scan

end
-- ==== Proof.Contents.lean ====
/-
# What the buffers hold

A device's rows are scanned in sixteen blocks of 512: block `b`'s running sums are the triangle's product with the
block plus the running total carried into it (`blockSums`), and the total carried out is their last row (`carry`).
The device's column totals are the total carried out of the last block; a landing row holds the totals of the device
it comes from; the result is the scanned block plus the totals of the devices before.
-/
module

public import proofs.«01_k».proof.Proof.Setup

@[expose] public section

noncomputable section

namespace Cert.Scan

open Cert.KernelIdeal Cert.KernelIdeal.Gen

open Idealize.ShloMosaic Idealize.ShloMosaic.TcCoe
open Idealize.SL Idealize.SL.Sem

variable {F : FTy → Type} [FloatOps F]

/-- The lower triangle of ones, the block product's left factor. -/
abbrev tri : FVec F S512x512 .f32 :=
  k0_pay2 (iota .tc S512x512 32 [0] iota_S512x512_d0_w32) (iota .tc S512x512 32 [1] iota_S512x512_d1_w32)

/-- The running sums of one block `v`, the total `t` carried in. -/
abbrev stepSums (v : Vec F S1x512x1024 .f32) (t : FVec F S1x1024 .f32) : FVec F S512x1024 .f32 := k0_pay5 tri t v

/-- The last row of a block's running sums: the total carried out. -/
abbrev lastRow (w : FVec F S512x1024 .f32) : FVec F S1x1024 .f32 :=
  extractStridedSlice S1x1024 ![511, 0] w slices_S512x1024_o511_0_S1x1024

/-- The total carried into block `b` of the blocks `X`. -/
def carry (X : ℕ → Vec F S1x512x1024 .f32) : ℕ → FVec F S1x1024 .f32
  | 0 => broadcast S1x1024 (Scalar.ofBits .f32 0x00000000#32)
  | b + 1 => lastRow (stepSums (X b) (carry X b))

/-- Block `b`'s running sums. -/
def blockSums (X : ℕ → Vec F S1x512x1024 .f32) (b : ℕ) : FVec F S512x1024 .f32 := stepSums (X b) (carry X b)

/-- The index of row `a`, column `b`. -/
def at2 {n p : ℕ} (a : Fin n) (b : Fin p) : (⟨2, ![n, p]⟩ : Shape).Idx := fun | 0 => a | 1 => b
/-- The index of row `a`, column `b` in layer `l`. -/
def at3 {q n p : ℕ} (l : Fin q) (a : Fin n) (b : Fin p) : (⟨3, ![q, n, p]⟩ : Shape).Idx := fun | 0 => l | 1 => a | 2 => b

/-- Row `i` of block `b`, among all the rows. -/
def rowOf (b i : ℕ) : Fin 8192 := ⟨(512 * b + i) % 8192, Nat.mod_lt _ (by decide)⟩

/-- Block `b` of the rows `x`, as the body reads it. -/
def blockOf (x : S8192x1024.Idx → Elt F .f32) (b : ℕ) : Vec F S1x512x1024 .f32 :=
  fun i => x (at2 (rowOf b (i 1).val) (i 2))

/-- The running sums of the rows `x`, all blocks together. -/
def scanned (x : S8192x1024.Idx → Elt F .f32) : S8192x1024.Idx → Elt F .f32 :=
  fun i => blockSums (blockOf x) ((i 0).val / 512) (at2 ⟨(i 0).val % 512, Nat.mod_lt _ (by decide)⟩ (i 1))

/-- The column totals of the rows `x`. -/
def totals (x : S8192x1024.Idx → Elt F .f32) : S1x1024.Idx → Elt F .f32 := carry (blockOf x) 16

end Cert.Scan

end
-- ==== Proof.Schedule.lean ====
/-
# The exchange's schedule

Three kinds of cell take part, each used for one round.
* The handshake cell of a device: seven units, one from every other device. The unit named `k` comes from the device
  `k + 1` places on and hands over row `k` of THAT device's landing buffer, together with the fact that its receive
  cell `k` is at the round this device will pay into.
* The send cell `k`: the copy's amount, handing back the share of the column totals that copy `k` was reading.
* The receive cell `k`: the copy's amount, handing over the landing row `k` with the totals of the device `k + 1` back.

A device owes, from the launch on, one unit to every other device's handshake cell and one row to the receive cell `k`
of the device `k + 1` on. A handshake cell lies below the receive cells, so the wait for the seven units is made while
owing the rows only; every local copy lies below both.
-/
module

public import proofs.«01_k».proof.Proof.Contents

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the exchange carries -/

/-- The rows of the argument device `c` holds. -/
abbrev xAt (c : Dev nD) : S8192x1024.Idx → Elt F .f32 := m ((c : Thread nD τ).loc main_arg0)

/-- Device `c`'s landing buffer once every row has come: row `k` holds the column totals of the device `k + 1` back. -/
def landing (c : Dev nD) : S7x1x1024.Idx → Elt F .f32 := fun i => totals (xAt m (src c (i 0))) (at2 (0 : Fin 1) (i 2))

/-- The share of the totals that copy `k` reads: halves of halves, what remains going to the last. -/
def shr : ℕ → PosShare TreeShare
  | 0 => fullShare
  | n + 1 => (shr n).right
/-- The share of the totals that copy `k` takes. -/
def cpy (k : Fin 7) : PosShare TreeShare := if k = 6 then shr 6 else (shr k.val).left

/-- Row `k` of device `c`'s landing buffer, at contents `f`. -/
def rowPts (c : Dev nD) (k : Fin 7) (f : S7x1x1024.Idx → Elt F .f32) : sProp 𝕄 :=
  (rowM k).view.loc (c : Thread nD τ) ↦[(rowM k).view.set]{fullShare} f
/-- Copy `k`'s share of device `c`'s column totals. -/
def totPts (c : Dev nD) (k : Fin 7) : sProp 𝕄 :=
  tM.view.loc (c : Thread nD τ) ↦[tM.view.set]{cpy k} (totals (xAt m c))

omit [FloatOps F] in
/-- A row may be handed over. -/
instance rowPts_storable (c : Dev nD) (k : Fin 7) (f) : BI.Storable (upEmb : UEmb _ 𝕄) (rowPts (F := F) c k f) := by
  unfold rowPts; infer_instance
/-- A share of the totals may be handed over. -/
instance totPts_storable (c : Dev nD) (k : Fin 7) : BI.Storable (upEmb : UEmb _ 𝕄) (totPts (F := F) m c k) := by
  unfold totPts; infer_instance

/-- What the unit `k` of `c`'s handshake hands over: row `k` of the landing buffer of the device `k + 1` on. -/
def barPay (c : Dev nD) (k : Fin 7) : sProp 𝕄 :=
  iprop((∃ f, rowPts (tgt c k) k f) ∗ reached ER (recvCell k (tgt c k)) 0)

/-! ## The schedule -/

/-- A cell is a handshake cell. -/
abbrev IsBar (g : GSem nD τ sig) : Prop := g.1.2 = .tc ∧ g.2 = .reg barS
/-- A cell is a send or a receive cell. -/
abbrev IsCopy (g : GSem nD τ sig) : Prop := g.1.2 = .tc ∧ ∃ k : Fin 7, g.2 = .dma (sendS k) ∨ g.2 = .dma (recvS k)

/-- A copy of the totals pays something. -/
theorem N_pos : 0 < N := View.dmaCredit_pos _ (by decide)

/-- What a cell hands over, by its semaphore. -/
def payOf (c : Dev nD) (sm : SemLoc sig) (d : Fin 7) : sProp 𝕄 :=
  if sm = .reg barS then barPay c d
  else if h : ∃ k : Fin 7, sm = .dma (sendS k) then totPts m c h.choose
  else if h : ∃ k : Fin 7, sm = .dma (recvS k) then rowPts c h.choose (landing m c)
  else iprop(emp)

/-- What a cell hands over may be handed over. -/
instance payOf_storable (c : Dev nD) (sm : SemLoc sig) (d : Fin 7) : BI.Storable (upEmb : UEmb _ 𝕄) (payOf (F := F) m c sm d) := by
  unfold payOf barPay
  (repeat' split) <;> infer_instance

/-- The schedule of the exchange: one round, the handshake's seven units, the copies' amounts. -/
def sched : Rounds.Schedule (GSem nD τ sig) (Fin 7) 𝕄 where
  duties g r := if r = 0 ∧ IsBar g then Finset.univ else if r = 0 ∧ IsCopy g then {0} else ∅
  unitless _ := False
  amount g _ _ := if g.2 = .reg barS then 1 else N
  payload g _ d := payOf m g.1.1 g.2 d
  amount_pos g _ _ _ := by
    by_cases h : g.2 = .reg barS
    · rw [if_pos h]; exact Nat.one_pos
    · rw [if_neg h]; exact N_pos

/-- Every payload of the schedule may be handed over. -/
instance sched_payload_storable (g : GSem nD τ sig) (r : ℕ) (d : Fin 7) :
    BI.Storable (upEmb : UEmb _ 𝕄) ((sched (F := F) m).payload g r d) := payOf_storable m _ _ _

section Tables
variable (c : Dev nD) (k : Fin 7)

/-- A copy's semaphore is not the handshake's. -/
theorem dma_ne_bar (q : DmaSem sig) : (SemLoc.dma q : SemLoc sig) ≠ .reg barS := fun h => by cases h
/-- A copy's cell is no handshake cell. -/
theorem not_bar_dma (q : DmaSem sig) : ¬ IsBar ((c : Thread nD τ), .dma q) := fun h => dma_ne_bar q h.2

/-- A handshake cell has seven duties. -/
theorem duties_bar : (sched (F := F) m).duties (barCell c) 0 = Finset.univ := by dsimp only [sched]; exact if_pos ⟨rfl, rfl, rfl⟩
/-- A send cell has one duty. -/
theorem duties_send : (sched (F := F) m).duties (sendCell k c) 0 = {0} := by
  dsimp only [sched]; rw [if_neg (fun h => not_bar_dma c _ h.2)]; exact if_pos ⟨rfl, rfl, k, .inl rfl⟩
/-- A receive cell has one duty. -/
theorem duties_recv : (sched (F := F) m).duties (recvCell k c) 0 = {0} := by
  dsimp only [sched]; rw [if_neg (fun h => not_bar_dma c _ h.2)]; exact if_pos ⟨rfl, rfl, k, .inr rfl⟩
/-- After the one round no cell has a duty. -/
theorem duties_later (g : GSem nD τ sig) : ∀ r, 1 ≤ r → (sched (F := F) m).duties g r = ∅ :=
  fun r hr => by dsimp only [sched]; rw [if_neg fun h => by omega, if_neg fun h => by omega]

/-- A duty of the handshake is one unit. -/
theorem amount_bar (d : Fin 7) : (sched (F := F) m).amount (barCell c) 0 d = 1 := by dsimp only [sched]; exact if_pos rfl
/-- A copy's duty is what the copy pays. -/
theorem amount_dma (q : DmaSem sig) (d : Fin 7) : (sched (F := F) m).amount ((c : Thread nD τ), .dma q) 0 d = N := by
  dsimp only [sched]; exact if_neg (dma_ne_bar q)

/-- A handshake cell expects seven units. -/
theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
/-- A send cell expects what one copy pays. -/
theorem expect_send : (sched (F := F) m).expect (sendCell k c) 0 = N := by
  unfold Schedule.expect Schedule.amountOf; rw [duties_send, Finset.sum_singleton, amount_dma]
/-- A receive cell expects what one copy pays. -/
theorem expect_recv : (sched (F := F) m).expect (recvCell k c) 0 = N := by
  unfold Schedule.expect Schedule.amountOf; rw [duties_recv, Finset.sum_singleton, amount_dma]

/-- A unit of the handshake hands over a row of a peer's landing buffer. -/
theorem payload_bar (d : Fin 7) : (sched (F := F) m).payload (barCell c) 0 d = barPay c d := by
  dsimp only [sched, payOf]; rw [if_pos rfl]
/-- A send cell hands back the copy's share of the totals. -/
theorem payload_send (d : Fin 7) : (sched (F := F) m).payload (sendCell k c) 0 d = totPts m c k := by
  have h : ∃ j : Fin 7, (SemLoc.dma (sendS k) : SemLoc sig) = .dma (sendS j) := ⟨k, rfl⟩
  dsimp only [sched, payOf]
  rw [if_neg (dma_ne_bar _), dif_pos h]
  congr 1
  exact (sendS_inj (SemLoc.dma.inj h.choose_spec)).symm
/-- A receive cell hands over its row, with the totals that landed. -/
theorem payload_recv (d : Fin 7) : (sched (F := F) m).payload (recvCell k c) 0 d = rowPts c k (landing m c) := by
  have h : ∃ j : Fin 7, (SemLoc.dma (recvS k) : SemLoc sig) = .dma (recvS j) := ⟨k, rfl⟩
  dsimp only [sched, payOf]
  rw [if_neg (dma_ne_bar _), dif_neg (fun ⟨j, hj⟩ => send_ne_recv j k (SemLoc.dma.inj hj).symm), dif_pos h]
  rw [← recvS_inj (SemLoc.dma.inj h.choose_spec)]

/-- The handshake's round, none of it taken: the seven rows of the other devices. -/
theorem rest_bar : bigSep ((sched (F := F) m).duties (barCell c) 0 \ ∅) (fun d => (sched (F := F) m).payload (barCell c) 0 d)
    = bigSep Finset.univ fun k : Fin 7 => barPay c k := by
  rw [Finset.sdiff_empty, duties_bar]; exact bigSep_congr fun d _ => payload_bar m c d
/-- Copy `k`'s round on the sender's side: its share of the totals back. -/
theorem rest_send : bigSep ((sched (F := F) m).duties (sendCell k c) 0 \ ∅) (fun d => (sched (F := F) m).payload (sendCell k c) 0 d) = totPts m c k := by
  rw [Finset.sdiff_empty, duties_send, bigSep_singleton, payload_send]
/-- Copy `k`'s round on the receiver's side: row `k` with the totals of the device `k + 1` back. -/
theorem rest_recv : bigSep ((sched (F := F) m).duties (recvCell k c) 0 \ ∅) (fun d => (sched (F := F) m).payload (recvCell k c) 0 d)
    = rowPts c k (landing m c) := by
  rw [Finset.sdiff_empty, duties_recv, bigSep_singleton, payload_recv]

end Tables

/-! ## What a device owes; the levels -/

/-- What device `c` owes the receive cells with `r` copies still to start. -/
def owedRows (c : Dev nD) : ℕ → CellTallies nD τ sig Unit
  | 0 => 0
  | r + 1 => owedRows c r + tallyAt (recvCell (rowLeft r) (tgt c (rowLeft r))) () N
/-- What it owes in all with `r` signals still to make, no copy started. -/
def owedAll (c : Dev nD) : ℕ → CellTallies nD τ sig Unit
  | 0 => owedRows c 7
  | r + 1 => owedAll c r + tallyAt (barCell (tgt c (rowLeft r))) () 1

/-- What a device owes at the launch. -/
abbrev O₀ (c : Dev nD) : CellTallies nD τ sig Unit := owedAll c 7

/-- Every semaphore of a device's core has one level. -/
def L (g : GSem nD τ sig) : Finset Unit := if g.1.2 = .tc then {()} else ∅
open Classical in
/-- Handshake cells at level 1, receive cells at 2, every other at 0. -/
def lv (g : GSem nD τ sig) (_ : Unit) : ℕ := if g.2 = .reg barS then 1 else if ∃ k : Fin 7, g.2 = .dma (recvS k) then 2 else 0

/-- Other threads' semaphores have none. -/
theorem L_of_ne (g : GSem nD τ sig) (h : g.1.2 ≠ .tc) : L g = ∅ := if_neg h
/-- A core's semaphore has its one level. -/
theorem L_tc (c : Dev nD) (sm : SemLoc sig) : L ((c : Thread nD τ), sm) = {()} := if_pos rfl
/-- A handshake cell is at level 1. -/
theorem lv_bar (c : Dev nD) (u : Unit) : lv (barCell c) u = 1 := if_pos rfl
/-- A receive cell is at level 2. -/
theorem lv_recv (c : Dev nD) (k : Fin 7) (u : Unit) : lv (recvCell k c) u = 2 := by
  unfold lv; rw [if_neg (dma_ne_bar _), if_pos ⟨k, rfl⟩]

/-- The copies' landings are owed to the peers' receive cells. -/
theorem owedRows_pos {c : Dev nD} {r : ℕ} {g : GSem nD τ sig} {u : Unit} (h : 0 < owedRows c r g u) :
    ∃ k : Fin 7, g = recvCell k (tgt c k) := by
  induction r with
  | zero => exact absurd h (Nat.lt_irrefl 0)
  | succ r ih =>
    unfold owedRows at h
    rw [Pi.add_apply, Finsupp.add_apply, tallyAt_apply] at h
    by_cases h' : g = recvCell (rowLeft r) (tgt c (rowLeft r)) ∧ u = ()
    · exact ⟨_, h'.1⟩
    · rw [if_neg h', Nat.add_zero] at h; exact ih h

/-- What is owed at any time is owed to the peers' receive and handshake cells. -/
theorem owedAll_pos {c : Dev nD} {r : ℕ} {g : GSem nD τ sig} {u : Unit} (h : 0 < owedAll c r g u) :
    (∃ k : Fin 7, g = recvCell k (tgt c k)) ∨ ∃ k : Fin 7, g = barCell (tgt c k) := by
  induction r with
  | zero => exact .inl (owedRows_pos h)
  | succ r ih =>
    unfold owedAll at h
    rw [Pi.add_apply, Finsupp.add_apply, tallyAt_apply] at h
    by_cases h' : g = barCell (tgt c (rowLeft r)) ∧ u = ()
    · exact .inr ⟨_, h'.1⟩
    · rw [if_neg h', Nat.add_zero] at h; exact ih h

omit [FloatOps F] in
/-- A copy on a cell that is no receive cell may be waited for whatever the device still owes. -/
theorem mayWait_low (c : Dev nD) (q : DmaSem sig) (hq : ∀ k, q ≠ recvS k) (O : CellTallies nD τ sig Unit)
    (hO : O = O₀ c ∨ O = owedRows c 7 ∨ O = 0) :
    (levAts L lv : sProp 𝕄) ⊢ MayWait (c : Thread nD τ) (.dma q) () O := by
  have hlow : ∀ u, lv ((c : Thread nD τ), .dma q) u = 0 := fun u => by
    unfold lv; rw [if_neg (dma_ne_bar _), if_neg (fun ⟨k, hk⟩ => hq k (SemLoc.dma.inj hk))]
  have key : ∀ O : CellTallies nD τ sig Unit, (∀ g u, 0 < O g u → (∃ k : Fin 7, g = recvCell k (tgt c k)) ∨ ∃ k : Fin 7, g = barCell (tgt c k)) →
      ((levAts L lv : sProp 𝕄) ⊢ MayWait (c : Thread nD τ) (.dma q) () O) := fun O hO =>
    MayOwe.of_cut (L := L) (lev := lv) 0 (fun p hp => by rw [Finset.mem_singleton.mp hp, L_tc]; exact Finset.mem_singleton_self _)
      (fun g u hg => by rcases hO g u hg with ⟨k, rfl⟩ | ⟨k, rfl⟩ <;> exact Finset.mem_singleton_self _)
      (fun p hp => by rw [Finset.mem_singleton.mp hp, hlow])
      (fun g u hg => by
        rcases hO g u hg with ⟨k, rfl⟩ | ⟨k, rfl⟩
        · rw [lv_recv]; decide
        · rw [lv_bar]; decide)
  rcases hO with rfl | rfl | rfl
  · exact key _ fun g u h => owedAll_pos h
  · exact key _ fun g u h => .inl (owedRows_pos h)
  · rw [MayWait_zero]; iintro -; iempintro

omit [FloatOps F] in
/-- At the handshake's wait a device owes rows only: receive cells, above its handshake cell. -/
theorem mayWait_bar (c : Dev nD) : (levAts L lv : sProp 𝕄) ⊢ MayWait (c : Thread nD τ) (.reg barS) () (owedRows c 7) :=
  MayOwe.of_cut (L := L) (lev := lv) 1 (fun p hp => by rw [Finset.mem_singleton.mp hp, L_tc]; exact Finset.mem_singleton_self _)
    (fun g u hg => by obtain ⟨k, rfl⟩ := owedRows_pos hg; exact Finset.mem_singleton_self _)
    (fun p hp => by rw [Finset.mem_singleton.mp hp, lv_bar])
    (fun g u hg => by obtain ⟨k, rfl⟩ := owedRows_pos hg; rw [lv_recv]; decide)

end Cert.Scan

end
-- ==== Proof.Exchange.lean ====
/-
# The exchange, step by step

Each step of the exchange — a signal, the handshake's wait, a copy, a copy's two waits — takes the state before the
`n`-th row is served to the state before the next, whatever the row; the body is then the seven steps of each kind in
turn. The records (the invariants of every cell, and that each is at round 0) are persistent and shared by all steps.
-/
module

public import proofs.«01_k».proof.Proof.Schedule

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the exchange needs a variant. -/
abbrev 𝒱₁ : Variants := Variants.none

/-! ## The rows still to serve, the rows served -/

/-- The rows from `n` on. -/
def rowsFrom (n : ℕ) : Finset (Fin 7) := Finset.univ.filter fun k => n ≤ k.val
/-- The rows before `n`. -/
def rowsTo (n : ℕ) : Finset (Fin 7) := Finset.univ.filter fun k => k.val < n

/-- At the start every row is still to serve. -/
theorem rowsFrom_zero : rowsFrom 0 = Finset.univ := by decide
/-- In the end every row is served. -/
theorem rowsTo_seven : rowsTo 7 = Finset.univ := by decide
/-- At the start no row is served. -/
theorem rowsTo_zero : rowsTo 0 = ∅ := by decide
/-- In the end no row is still to serve. -/
theorem rowsFrom_seven : rowsFrom 7 = ∅ := by decide

omit [FloatOps F] in
/-- The rows from `k` on are row `k` and the rows after it. -/
theorem take_row (k : Fin 7) (Φ : Fin 7 → sProp 𝕄) : bigSep (rowsFrom k.val) Φ = iprop(Φ k ∗ bigSep (rowsFrom (k.val + 1)) Φ) := by
  rw [show rowsFrom k.val = insert k (rowsFrom (k.val + 1)) by revert k; decide]
  exact bigSep_insert (show k ∉ rowsFrom (k.val + 1) by revert k; decide)
omit [FloatOps F] in
/-- The rows up to and with `k` are row `k` and the rows before it. -/
theorem put_row (k : Fin 7) (Φ : Fin 7 → sProp 𝕄) : bigSep (rowsTo (k.val + 1)) Φ = iprop(Φ k ∗ bigSep (rowsTo k.val) Φ) := by
  rw [show rowsTo (k.val + 1) = insert k (rowsTo k.val) by revert k; decide]
  exact bigSep_insert (show k ∉ rowsTo k.val by revert k; decide)

/-! ## The records -/

/-- A device's cells: its handshake cell, its send cells, its receive cells. -/
abbrev CI : Type := Unit ⊕ (Fin 7 ⊕ Fin 7)
/-- The cell a name stands for. -/
abbrev kcell (ck : Dev nD × CI) : GSem nD τ sig := match ck.2 with
  | .inl _ => barCell ck.1 | .inr (.inl k) => sendCell k ck.1 | .inr (.inr k) => recvCell k ck.1

/-- Every cell's invariant, under the names `K`, and that every cell is at round 0. -/
def records (K : Dev nD × CI → ℕ) : sProp 𝕄 :=
  iprop((bigSep Finset.univ fun ck : Dev nD × CI => cellInv ER (sched (F := F) m) (K ck) (kcell ck))
    ∗ bigSep Finset.univ fun ck : Dev nD × CI => reached ER (kcell ck) 0)

/-- The records may be used again and again. -/
instance records_persistent (K : Dev nD × CI → ℕ) : BI.Persistent (records (F := F) m K) := by unfold records; infer_instance

variable (K : Dev nD × CI → ℕ)

/-- The records hold each cell's invariant. -/
theorem inv_at (ck : Dev nD × CI) : records (F := F) m K ⊢ cellInv ER (sched m) (K ck) (kcell ck) :=
  sep_elim_left.trans (bigSep_elim (Finset.mem_univ ck))
/-- The records hold that each cell is at round 0. -/
theorem reached_at (ck : Dev nD × CI) : records (F := F) m K ⊢ reached ER (kcell ck) 0 :=
  sep_elim_right.trans (bigSep_elim (Finset.mem_univ ck))

/-! ## The signals -/

/-- Before row `n`'s signal: what is owed, and for each row from `n` on the token of the unit and the row it hands over. -/
def SigSt (c : Dev nD) (n : ℕ) : sProp 𝕄 :=
  iprop((∃ W, owes (c : Thread nD τ) (owedAll c (7 - n)) W)
    ∗ bigSep (rowsFrom n) fun k => iprop(dutyTok ER (barCell (tgt c k)) 0 (Fin.rev k) ∗ ∃ f, rowPts c (Fin.rev k) f))

/-- What is owed before the signal for row `k`: that signal, and what is owed after it. -/
theorem owedAll_step (c : Dev nD) (k : Fin 7) :
    owedAll c (7 - k.val) = owedAll c (7 - (k.val + 1)) + tallyAt (barCell (tgt c k)) () 1 := by
  have h : 7 - k.val = (6 - k.val) + 1 := by omega
  have h' : 7 - (k.val + 1) = 6 - k.val := by omega
  have hk : rowLeft (6 - k.val) = k := Fin.ext (by show 6 - (6 - k.val) = k.val; omega)
  rw [h, h']; unfold owedAll; rw [hk]
  cases h6 : 6 - k.val <;> rfl
/-- What is owed before copy `k`: that copy's landing, and what is owed after it. -/
theorem owedRows_step (c : Dev nD) (k : Fin 7) :
    owedRows c (7 - k.val) = owedRows c (7 - (k.val + 1)) + tallyAt (recvCell k (tgt c k)) () N := by
  have h : 7 - k.val = (6 - k.val) + 1 := by omega
  have h' : 7 - (k.val + 1) = 6 - k.val := by omega
  have hk : rowLeft (6 - k.val) = k := Fin.ext (by show 6 - (6 - k.val) = k.val; omega)
  rw [h, h']; unfold owedRows; rw [hk]
  cases h6 : 6 - k.val <;> rfl

/-- Row `k`'s signal, to the device `k + 1` on: its unit, with the landing row that device is to fill. -/
theorem wp_signal_row (c n : Dev nD) (k : Fin 7) (hn : n = tgt c k) {α : Type} {Q : α → sProp 𝕄}
    {kk : PUnit → Prog (TpuEff nD τ sig (Elt F) Λ₀ .tc) α} :
    iprop(records m K ∗ SigSt c k.val)
      ⊢ iprop((SigSt c (k.val + 1) -∗ wp frame (wpE (defs₀ (F := F)) 𝒱₁ (c : Thread nD τ) none) Set.univ (kk ⟨⟩) Q)
        -∗ wp frame (wpE (defs₀ (F := F)) 𝒱₁ (c : Thread nD τ) none) Set.univ
            (.op (.semSignal (n : Thread nD τ) barS (1#32).toNat) kk) Q) := by
  subst hn
  unfold SigSt
  rw [take_row, owedAll_step]
  iintro ⟨#HR, ⟨%W, HO⟩, ⟨Ht, Hrow⟩, Hrest⟩ Hk
  iapply (Rounds.wp_signal 𝒱₁ ER (sched m) (c : Thread nD τ) none (dst := (tgt c k : Thread nD τ)) (κ := K (tgt c k, .inl ()))
      (d := Fin.rev k) (by rw [duties_bar]; exact Finset.mem_univ _) ((amount_bar m (tgt c k) (Fin.rev k)).trans (by decide)) ()
      (owedAll c (7 - (k.val + 1))) rfl) $$ [HO Ht Hrow]
  · isplitr; · iapply (inv_at m K (tgt c k, .inl ())); iexact HR
    isplitl [HO]; · iexact HO
    isplitl [Ht]; · iexact Ht
    isplitl [Hrow]
    · rw [payload_bar]; unfold barPay; rw [tgt_tgt]
      isplitl [Hrow]; · iexact Hrow
      iapply (reached_at m K (c, .inr (.inr (Fin.rev k)))); iexact HR
    iapply (reached_at m K (tgt c k, .inl ())); iexact HR
  iintro HO
  iapply Hk
  isplitl [HO]
  · iexists W; iexact HO
  iexact Hrest

omit [FloatOps F] in
/-- The units' payloads hand over the rows. -/
theorem bar_rows (c : Dev nD) : (bigSep Finset.univ fun k => barPay (F := F) c k) ⊢ bigSep Finset.univ fun k => iprop(∃ f, rowPts (F := F) (tgt c k) k f) :=
  bigSep_mono fun k _ => show barPay (F := F) c k ⊢ iprop(∃ f, rowPts (F := F) (tgt c k) k f) from sep_elim_left

/-- The handshake's wait: the seven other devices' rows `k` come with it. -/
theorem wp_wait_bar (c : Dev nD) {α : Type} {Q : α → sProp 𝕄} {kk : PUnit → Prog (TpuEff nD τ sig (Elt F) Λ₀ .tc) α} :
    iprop(records m K ∗ levAts L lv ∗ SigSt c 7 ∗ cred (tallyAt (barCell c) () 7) ∗ atPos ER (barCell c) 0 ∅ 0)
      ⊢ iprop(((∃ W, owes (c : Thread nD τ) (owedRows c 7) W) -∗ semVal (barCell c) 0 -∗ (bigSep Finset.univ fun k => iprop(∃ f, rowPts (tgt c k) k f))
            -∗ wp frame (wpE (defs₀ (F := F)) 𝒱₁ (c : Thread nD τ) none) Set.univ (kk ⟨⟩) Q)
        -∗ wp frame (wpE (defs₀ (F := F)) 𝒱₁ (c : Thread nD τ) none) Set.univ (.op (.semWait barS (7#32).toNat) kk) Q) := by
  unfold SigSt
  iintro ⟨#HR, #Hlev, ⟨⟨%W, HO⟩, -⟩, Hc, Hat⟩ Hk
  rw [show owedAll c (7 - 7) = owedRows c 7 from rfl]
  iapply (Rounds.wp_wait_rest_token 𝒱₁ ER (sched m) (c : Thread nD τ) none (κ := K (c, .inl ()))
      (wpE_semWait_eq 𝒱₁ (c : Thread nD τ) none Set.univ) (Set.mem_univ _) () (O := owedRows c 7) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (sched m) (Set.mem_univ (K (c, .inl ()))) (fun h => h) (R := 0 + 1) (duties_later m (barCell c))) $$ [Hat] with Hz
  · isplitr; · iapply (inv_at m K (c, .inl ())); iexact HR
    iexact Hat
  iapply Hk $$ [HO] Hz [Hp]
  · iexists _; iexact HO
  · iapply (bar_rows c) $$ Hp

/-! ## The copies -/

/-- Place `j` of row `k` is column `j 1` of row `k` of the landing buffer. -/
theorem row_emb (k : Fin 7) (j : S1x1024.Idx) : ((rowM k).view.emb j : S7x1x1024.Idx) = at3 k 0 (j 1) := by
  have hj : Shape.reshapeEquiv (s := S1x1x1024) (s' := S1x1024) (by decide) j = at3 (0 : Fin 1) (0 : Fin 1) (j 1) := by
    refine (Shape.reshapeEquiv_cons_one (d := ![1, 1024]) _ _).trans (funext fun i => ?_)
    match i with
    | ⟨0, _⟩ => rfl
    | ⟨1, _⟩ => exact Fin.ext (by have : (j 0).val < 1 := (j 0).isLt; show (j 0).val = 0; omega)
    | ⟨2, _⟩ => rfl
  refine Eq.trans (b := (lM.view.slice (Rect.unit (s := S7x1x1024) ![k.val, 0, 0] S1x1x1024.size (inb_row k))).emb
    (Shape.reshapeEquiv (s := S1x1x1024) (s' := S1x1024) (by decide) j)) rfl ?_
  rw [hj]
  funext a
  refine Fin.ext ?_
  match a with
  | ⟨0, _⟩ => show k.val + 1 * 0 = k.val; omega
  | ⟨1, _⟩ => show 0 + 1 * 0 = 0; omega
  | ⟨2, _⟩ => show 0 + 1 * (j 1).val = (j 1).val; omega

/-- The totals written into row `k` of the device `k + 1` on: the row as that device finds it. -/
theorem landing_row (c : Dev nD) (k : Fin 7) (f : S7x1x1024.Idx → Elt F .f32) :
    ((rowM k).view.loc (tgt c k : Thread nD τ) ↦[(rowM k).view.set]{fullShare}
        ((rowM k).view.write (Elt F) f ((tM : Memref sig .tc .vmem S1x1024 .f32).view.read (Elt F) (totals (xAt m c))) Finset.univ) : sProp 𝕄)
      ⊢ rowPts (tgt c k) k (landing m (tgt c k)) := by
  unfold rowPts
  refine Entails.of_eq (pointsTo_congr fun i hi => ?_)
  obtain ⟨j, -, rfl⟩ := Finset.mem_map.mp hi
  refine (View.write_emb_of_mem _ _ (Finset.mem_univ j)).trans ?_
  rw [row_emb]
  show totals (xAt m c) j = totals (xAt m (src (tgt c k) k)) (at2 0 (j 1))
  rw [src_tgt]
  refine congrArg _ (funext fun a => ?_)
  match a with
  | ⟨0, _⟩ => exact Fin.ext (by have : (j 0).val < 1 := (j 0).isLt; show (j 0).val = 0; omega)
  | ⟨1, _⟩ => rfl

/-- Before row `n`'s copy: what is owed; for each row from `n` on the two tokens, the share of the totals it reads and
    the row it fills; for each row before, the credit of the copy started. -/
def CopySt (c : Dev nD) (n : ℕ) : sProp 𝕄 :=
  iprop((∃ W, owes (c : Thread nD τ) (owedRows c (7 - n)) W)
    ∗ (bigSep (rowsFrom n) fun k => iprop(dutyTok ER (sendCell k c) 0 (0 : Fin 7) ∗ dutyTok ER (recvCell k (tgt c k)) 0 (0 : Fin 7)
        ∗ totPts m c k ∗ ∃ f, rowPts (tgt c k) k f))
    ∗ bigSep (rowsTo n) fun k => cred (tallyAt (sendCell k c) () N))

/-- Row `k`'s copy, to the device `k + 1` on. -/
theorem wp_copy_row (c n : Dev nD) (k : Fin 7) (hn : n = tgt c k) {α : Type} {Q : α → sProp 𝕄}
    {kk : PUnit → Prog (TpuEff nD τ sig (Elt F) Λ₀ .tc) α}
    {hsc : (rowM k : Memref sig (Dev.tc n : Thread nD τ).2.kind .vmem S1x1024 .f32).view.ref.isScScratch = false}
    {hsrc : (tM : Memref sig .tc .vmem S1x1024 .f32).view.WordExact} {hdst : (rowM k : Memref sig .tc .vmem S1x1024 .f32).view.WordExact}
    {hsem : DmaTarget.Typed .vmem (.dma (recvS k)) (.remote (Dev.tc n : Thread nD τ) (rowM k : Memref sig .tc .vmem S1x1024 .f32) (.dma (sendS k)) hsc)} :
    iprop(records m K ∗ CopySt m c k.val)
      ⊢ iprop((CopySt m c (k.val + 1) -∗ wp frame (wpE (defs₀ (F := F)) 𝒱₁ (c : Thread nD τ) none) Set.univ (kk ⟨⟩) Q)
        -∗ wp frame (wpE (defs₀ (F := F)) 𝒱₁ (c : Thread nD τ) none) Set.univ
            (.op (.enqueueDma tM (.remote (Dev.tc n : Thread nD τ) (rowM k) (.dma (sendS k)) hsc) (.dma (recvS k)) hsrc hdst hsem) kk) Q) := by
  subst hn
  unfold CopySt
  rw [take_row, put_row, owedRows_step]
  iintro ⟨#HR, ⟨%W, HO⟩, ⟨⟨Hts, Htr, Htot, ⟨%f, Hrow⟩⟩, Hrest⟩, Hcr⟩ Hk
  unfold totPts rowPts
  iapply (Rounds.wp_send_pointsTo 𝒱₁ ER (sched m) (c : Thread nD τ) none (κ₁ := K (c, .inr (.inl k))) (κ₂ := K (tgt c k, .inr (.inr k)))
    (c' := (tgt c k : Thread nD τ)) (src := tM) (dst := rowM k) (hsrc := hsrc) (hdst := hdst) (hsem := hsem)
    (r₁ := 0) (r₂ := 0) (d₁ := (0 : Fin 7)) (d₂ := (0 : Fin 7)) (fd := f)
    (by rw [duties_send]; exact Finset.mem_singleton_self _) (by rw [duties_recv]; exact Finset.mem_singleton_self _)
    () () N rfl (amount_dma m c _ 0) (amount_dma m (tgt c k) _ 0) (owedRows c (7 - (k.val + 1))) rfl (W := W)
    (by rw [payload_send]; exact BI.Entails.refl _)
    (by rw [payload_recv]; exact landing_row m c k f)) $$ [HO Hts Htr Htot Hrow]
  · isplitr; · iapply (inv_at m K (c, .inr (.inl k))); iexact HR
    isplitr; · iapply (inv_at m K (tgt c k, .inr (.inr k))); iexact HR
    isplitl [Htot]; · iexact Htot
    isplitl [Hrow]; · iexact Hrow
    isplitl [HO]; · iexact HO
    isplitl [Hts]; · iexact Hts
    isplitr; · iapply (reached_at m K (c, .inr (.inl k))); iexact HR
    isplitl [Htr]; · iexact Htr
    iapply (reached_at m K (tgt c k, .inr (.inr k))); iexact HR
  iintro ⟨Hc, HO⟩
  iapply Hk
  isplitl [HO]
  · iexists W; iexact HO
  isplitl [Hrest]; · iexact Hrest
  isplitl [Hc] <;> iassumption

/-! ## The copies' waits -/

/-- Before row `n`'s waits: nothing owed; for each row from `n` on the credits of its two cells and the positions at
    them; for each row before, the share of the totals back, the row landed, and the two cells closed. -/
def WaitSt (c : Dev nD) (n : ℕ) : sProp 𝕄 :=
  iprop((∃ W, owes (c : Thread nD τ) 0 W)
    ∗ (bigSep (rowsFrom n) fun k => iprop((cred (tallyAt (sendCell k c) () N) ∗ atPos ER (sendCell k c) 0 ∅ 0)
        ∗ cred (tallyAt (recvCell k c) () N) ∗ atPos ER (recvCell k c) 0 ∅ 0))
    ∗ bigSep (rowsTo n) fun k => iprop((totPts m c k ∗ semVal (sendCell k c) 0) ∗ rowPts c k (landing m c) ∗ semVal (recvCell k c) 0))

/-- Row `k`'s two waits: on its send cell for the share of the totals, on its receive cell for the row. -/
theorem wp_wait_row (c : Dev nD) (k : Fin 7) {α : Type} {Q : α → sProp 𝕄}
    {kk : PUnit → Prog (TpuEff nD τ sig (Elt F) Λ₀ .tc) α}
    {h₁ h₄ : (rowM k : Memref sig .tc .vmem S1x1024 .f32).view.WordExact} {h₂ h₃ : (tM : Memref sig .tc .vmem S1x1024 .f32).view.WordExact} :
    iprop(records m K ∗ WaitSt m c k.val)
      ⊢ iprop((WaitSt m c (k.val + 1) -∗ wp frame (wpE (defs₀ (F := F)) 𝒱₁ (c : Thread nD τ) none) Set.univ (kk ⟨⟩) Q)
        -∗ wp frame (wpE (defs₀ (F := F)) 𝒱₁ (c : Thread nD τ) none) Set.univ
            (.op (.waitDma2 (sendS k) (rowM k) tM h₁ h₂) fun _ => .op (.waitDma2 (recvS k) tM (rowM k) h₃ h₄) kk) Q) := by
  unfold WaitSt
  rw [take_row, put_row]
  iintro ⟨#HR, ⟨%W, HO⟩, ⟨⟨⟨HcS, HaS⟩, HcV, HaV⟩, Hrest⟩, Hdone⟩ Hk
  iapply (Rounds.wp_wait_rest_token 𝒱₁ ER (sched m) (c : Thread nD τ) none (κ := K (c, .inr (.inl k)))
      (wpE_waitDma2_eq 𝒱₁ (c : Thread nD τ) none Set.univ) (Set.mem_univ _) () (O := 0) (W := W) (R := 0) (m := 0) (T := ∅)
      (by rw [Nat.zero_add, expect_send])) $$ [HcS HO HaS]
  · isplitr; · iapply (inv_at m K (c, .inr (.inl k))); iexact HR
    isplitl [HcS]; · iexact HcS
    isplitl [HO]; · iexact HO
    isplitr; · rw [MayWait_zero]; iempintro
    iexact HaS
  iintro ⟨HO, HaS, -, Hpay⟩
  ihave Htot := (Entails.of_eq (rest_send m c k)) $$ Hpay
  iapply (Rounds.wp_wait_rest_token 𝒱₁ ER (sched m) (c : Thread nD τ) none (κ := K (c, .inr (.inr k)))
      (wpE_waitDma2_eq 𝒱₁ (c : Thread nD τ) none Set.univ) (Set.mem_univ _) () (O := 0) (W := insert (SemLoc.dma (sendS k), ()) W) (R := 0) (m := 0) (T := ∅)
      (by rw [Nat.zero_add, expect_recv])) $$ [HcV HO HaV]
  · isplitr; · iapply (inv_at m K (c, .inr (.inr k))); iexact HR
    isplitl [HcV]; · iexact HcV
    isplitl [HO]; · iexact HO
    isplitr; · rw [MayWait_zero]; iempintro
    iexact HaV
  iintro ⟨HO, HaV, -, Hpay⟩
  ihave Hrow := (Entails.of_eq (rest_recv m c k)) $$ Hpay
  imod (Rounds.cell_close ER (sched m) (Set.mem_univ (K (c, .inr (.inl k)))) (fun h => h) (R := 0 + 1) (duties_later m (sendCell k c))) $$ [HaS] with HzS
  · isplitr; · iapply (inv_at m K (c, .inr (.inl k))); iexact HR
    iexact HaS
  imod (Rounds.cell_close ER (sched m) (Set.mem_univ (K (c, .inr (.inr k)))) (fun h => h) (R := 0 + 1) (duties_later m (recvCell k c))) $$ [HaV] with HzV
  · isplitr; · iapply (inv_at m K (c, .inr (.inr k))); iexact HR
    iexact HaV
  iapply Hk
  isplitl [HO]
  · iexists _; iexact HO
  isplitl [Hrest]; · iexact Hrest
  isplitl [Htot HzS Hrow HzV]
  · isplitl [Htot HzS]
    · isplitl [Htot] <;> iassumption
    isplitl [Hrow] <;> iassumption
  iexact Hdone

/-! ## The landing buffer and the totals, in parts -/

/-- A place belongs to row `k` if its first coordinate is `k`. -/
theorem row_mem (k : Fin 7) (i : S7x1x1024.Idx) : i ∈ (rowM k).view.set ↔ i 0 = k := by
  constructor
  · intro h
    obtain ⟨j, -, rfl⟩ := Finset.mem_map.mp h
    rw [row_emb]; rfl
  · intro h
    have : i = (rowM k).view.emb (at2 0 (i 2)) := by
      rw [row_emb]
      funext a
      match a with
      | ⟨0, _⟩ => exact h
      | ⟨1, _⟩ => exact Fin.ext (by have : (i 1).val < 1 := (i 1).isLt; show (i 1).val = 0; omega)
      | ⟨2, _⟩ => rfl
    rw [this]; exact View.emb_mem_set _ _

omit [FloatOps F] in
/-- The landing buffer is its seven rows. -/
theorem rows_eq (c : Dev nD) (f : S7x1x1024.Idx → Elt F .f32) :
    (lM.view.loc (c : Thread nD τ) ↦{fullShare} f : sProp 𝕄) = bigSep Finset.univ fun k => rowPts c k f := by
  have hU : (Finset.univ : Finset S7x1x1024.Idx) = Finset.univ.biUnion fun k : Fin 7 => (rowM k).view.set := by
    symm; rw [Finset.eq_univ_iff_forall]; intro i
    exact Finset.mem_biUnion.mpr ⟨i 0, Finset.mem_univ _, (row_mem _ _).mpr rfl⟩
  unfold rowPts
  refine Eq.trans ?_ (pointsTo_biUnion (ℓ := lM.view.loc (c : Thread nD τ)) Finset.univ (fun k : Fin 7 => (rowM k).view.set) fun k _ k' _ h =>
    Finset.disjoint_left.mpr fun i hi hi' => h (((row_mem k i).mp hi).symm.trans ((row_mem k' i).mp hi')))
  rw [← hU]

/-- What remains of the totals with `n` copies' shares taken. -/
def totRest (c : Dev nD) (n : ℕ) : sProp 𝕄 := tM.view.loc (c : Thread nD τ) ↦[tM.view.set]{shr n} (totals (xAt m c))

/-- What remains of the totals, but for the last copy, is that copy's share and what remains after it. -/
theorem tot_split (c : Dev nD) (n : Fin 7) (hn : n ≠ 6) : totRest m c n.val = iprop(totPts m c n ∗ totRest m c (n.val + 1)) := by
  unfold totRest totPts
  rw [show cpy n = (shr n.val).left from if_neg hn]
  have h : (tM.view.loc (c : Thread nD τ) ↦[tM.view.set]{shr n.val} (totals (xAt m c)) : sProp 𝕄) ⊣⊢ _ :=
    pointsTo_share (PosShare.mem_left_op_right (shr n.val))
  exact BI.equiv_iff.mp ⟨h.1, h.2⟩

/-- The totals are the seven copies' shares of them. -/
theorem tots_eq (c : Dev nD) : totRest m c 0 = bigSep Finset.univ fun k => totPts m c k := by
  rw [show bigSep Finset.univ (fun k => totPts m c k) = bigSep (rowsFrom 0) (fun k => totPts m c k) by rw [rowsFrom_zero]]
  have key : ∀ d : ℕ, ∀ n : Fin 7, n.val + d = 6 → totRest m c n.val = bigSep (rowsFrom n.val) fun k => totPts m c k := by
    intro d
    induction d with
    | zero =>
      intro n hn
      obtain rfl : n = 6 := Fin.ext hn
      rw [take_row, show ((6 : Fin 7).val + 1) = 7 from rfl, rowsFrom_seven, bigSep_empty]
      exact (BI.equiv_iff.mp ⟨sep_emp.1, sep_emp.2⟩).symm
    | succ d ih =>
      intro n hn
      have hlt : n.val + 1 < 7 := by omega
      rw [take_row, tot_split m c n (fun h => by rw [h] at hn; simp at hn)]
      rw [show totRest m c (n.val + 1) = _ from ih ⟨n.val + 1, hlt⟩ (by show n.val + 1 + d = 6; omega)]
  exact key 6 0 rfl

end Cert.Scan

end
-- ==== Proof.Local.lean ====
/-
# One block of rows: read in, scanned, stored

The rows are read block by block into two halves of a buffer, in turn: while one half is scanned the next block is on
its way into the other. A half is either idle — its semaphore at zero, its share of the argument whole — or a block is
on its way into it. Issuing block `b` takes an idle half to that state, and the step that waits for the block, loads
it, and stores its running sums takes it back to idle with one more block of the result written.
-/
module

public import proofs.«01_k».proof.Proof.Schedule

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop of the body needs a variant. -/
abbrev 𝒱₀ : Variants := Variants.none

/-! ## The halves and the blocks -/

/-- Half `h` lies inside the block buffer. -/
theorem inb_half (h : Fin 2) : ∀ a, (![h.val, 0, 0] : Fin 3 → Nat) a + S1x512x1024.size a ≤ S2x512x1024.size a := by revert h; decide
/-- Block `b` lies inside the device's rows. -/
theorem inb_blk (b : Fin 16) : ∀ a, (![512 * b.val, 0] : Fin 2 → Nat) a + S512x1024.size a ≤ S8192x1024.size a := by revert b; decide
/-- There is a load semaphore for each half. -/
theorem inb_load (h : Fin 2) : ∀ a, (![h.val] : Fin 1 → Nat) a + S1.size a ≤ S2.size a := by revert h; decide

/-- The half block `b` is read into. -/
abbrev par (b : Fin 16) : Fin 2 := ⟨b.val % 2, Nat.mod_lt _ (by decide)⟩

/-- Layer `h` of the block buffer. -/
abbrev rHalf (h : Fin 2) : Rect S2x512x1024 := Rect.unit (s := S2x512x1024) ![h.val, 0, 0] S1x512x1024.size (inb_half h)
/-- The rows of block `b`. -/
abbrev rBlk (b : Fin 16) : Rect S8192x1024 := Rect.unit (s := S8192x1024) ![512 * b.val, 0] S512x1024.size (inb_blk b)

/-- Half `h` of the block buffer, as a buffer of one block. -/
abbrev halfM (h : Fin 2) : Memref sig .tc .vmem S512x1024 .f32 := (bM.slice (rHalf h) (fun _ => rfl)).squeeze S512x1024 squeezes_S1x512x1024_S512x1024
/-- Block `b` of the argument. -/
abbrev blkM (b : Fin 16) : Memref sig .tc .hbm S512x1024 .f32 := xM.slice (rBlk b) (fun _ => rfl)
/-- The semaphore of the copies into half `h`. -/
abbrev loadS (h : Fin 2) : DmaSem sig := ((cc0_scratch3.slice (Rect.unit (s := S2) ![h.val] S1.size (inb_load h))).squeeze S_ squeezes_S1_S_ : DmaSems sig S_).sem

/-- A load semaphore is no receive semaphore. -/
theorem load_ne_recv (h : Fin 2) (k : Fin 7) : loadS h ≠ recvS k := by revert h k; decide

/-- The row-major position of row `a`, column `b` of a block is that of the same in the block's one layer. -/
theorem reshape_at2 (a : Fin 512) (b : Fin 1024) : Shape.reshapeEquiv (s := S1x512x1024) (s' := S512x1024) (by decide) (at2 a b) = at3 0 a b := by
  refine (Shape.reshapeEquiv_cons_one (d := ![512, 1024]) _ _).trans (funext fun i => ?_)
  fin_cases i <;> rfl

/-- Place `j` of block `b` is row `j 0` of that block, column `j 1`. -/
theorem blk_emb (b : Fin 16) (j : S512x1024.Idx) : (blkM b).view.emb j = at2 (rowOf b.val (j 0).val) (j 1) := by
  funext a
  refine Fin.ext ?_
  have hb := b.isLt
  have hj : (j 0).val < 512 := (j 0).isLt
  match a with
  | ⟨0, _⟩ =>
    show 512 * b.val + 1 * (j 0).val = (512 * b.val + (j 0).val) % 8192
    rw [Nat.mod_eq_of_lt (by omega)]; omega
  | ⟨1, _⟩ =>
    show 0 + 1 * (j 1).val = (j 1).val
    omega

/-- What the load reads off the half block `b` has come into: the block. -/
theorem read_half (b : Fin 16) (x : S8192x1024.Idx → Elt F .f32) (f : (halfM (par b)).view.ty.Contents (Elt F)) :
    bM.view.readAt (Elt F) (rHalf (par b)).toLoadRect ((halfM (par b)).view.write (Elt F) f ((blkM b).view.read (Elt F) x) Finset.univ) = blockOf x b.val := by
  funext i
  have hi : i = Shape.reshapeEquiv (s := S1x512x1024) (s' := S512x1024) (by decide) (at2 (i 1) (i 2)) := by
    refine Eq.trans ?_ (reshape_at2 (i 1) (i 2)).symm
    funext a
    match a with
    | ⟨0, _⟩ => exact Fin.ext (by have : (i 0).val < 1 := (i 0).isLt; show (i 0).val = 0; omega)
    | ⟨1, _⟩ => rfl
    | ⟨2, _⟩ => rfl
  rw [View.readAt_rect]
  conv_lhs => rw [hi]
  refine (View.read_write_of_mem (v := (halfM (par b)).view) f _ (Finset.mem_univ (at2 (i 1) (i 2)))).trans ?_
  show x ((blkM b).view.emb (at2 (i 1) (i 2))) = _
  rw [blk_emb]; rfl

/-- A block stored into the result: the block's rows read the stored value, every other row what was there. -/
theorem write_blk (b : Fin 16) (f : (oM : Memref sig .tc .vmem S8192x1024 .f32).view.ty.Contents (Elt F)) (w : S512x1024.Idx → Elt F .f32) (i : S8192x1024.Idx) :
    ((oM.access (rBlk b) : View sig .tc _ _ _).write (Elt F) f w Finset.univ : S8192x1024.Idx → Elt F .f32) i
      = if (i 0).val / 512 = b.val then w (at2 ⟨(i 0).val % 512, Nat.mod_lt _ (by decide)⟩ (i 1)) else f i := by
  have hb := b.isLt
  split
  · next h =>
    have hi : i = (oM.access (rBlk b) : View sig .tc _ _ _).emb (at2 ⟨(i 0).val % 512, Nat.mod_lt _ (by decide)⟩ (i 1)) := by
      funext a
      refine Fin.ext ?_
      match a with
      | ⟨0, _⟩ =>
        show (i 0).val = 512 * b.val + 1 * ((i 0).val % 512)
        omega
      | ⟨1, _⟩ =>
        show (i 1).val = 0 + 1 * (i 1).val
        omega
    conv_lhs => rw [hi]
    rw [View.write_emb_of_mem _ _ (Finset.mem_univ _)]; rfl
  · next h =>
    refine View.write_of_not_mem _ _ _ fun hm => h ?_
    obtain ⟨j, -, hj⟩ := Finset.mem_map.mp hm
    subst hj
    have hj0 : (j 0).val < 512 := (j 0).isLt
    show (512 * b.val + 1 * (j 0).val) / 512 = b.val
    omega

/-! ## The state of a half -/

/-- The share of the argument the copies into half `h` read. -/
def xshr (h : Fin 2) : PosShare TreeShare := if h = 0 then fullShare.left else fullShare.right

/-- The units one block credits its semaphore with. -/
abbrev NL : ℕ := (halfM 0).view.dmaCredit
/-- A block's copy pays something. -/
theorem NL_pos : 0 < NL := View.dmaCredit_pos _ (by decide)

/-- Half `h` idle. -/
def Idle (c : Dev nD) (h : Fin 2) : sProp 𝕄 :=
  iprop((∃ f, (halfM h).view.loc (c : Thread nD τ) ↦[(halfM h).view.set]{fullShare} f)
    ∗ semVal ((c : Thread nD τ), .dma (loadS h)) 0
    ∗ xM.view.loc (c : Thread nD τ) ↦{xshr h} (xAt m c))

/-- Block `b` on its way into its half. -/
def Fly (c : Dev nD) (b : Fin 16) : sProp 𝕄 :=
  iprop((∃ f, Transfers.Flight (countersEmb (U := UU)) (c : Thread nD τ) (.dma (loadS (par b))) () NL
      iprop(((halfM (par b)).view.loc (c : Thread nD τ) ↦[(halfM (par b)).view.set]{fullShare}
          ((halfM (par b)).view.write (Elt F) f ((blkM b).view.read (Elt F) (xAt m c)) Finset.univ))
        ∗ ((blkM b).view.loc (c : Thread nD τ) ↦[(blkM b).view.set]{xshr (par b)} (xAt m c))))
    ∗ xM.view.loc (c : Thread nD τ) ↦[Finset.univ \ (blkM b).view.set]{xshr (par b)} (xAt m c))

/-- The result's buffer with the first `n` blocks scanned. -/
def OutTo (c : Dev nD) (n : ℕ) : sProp 𝕄 :=
  iprop(∃ f : S8192x1024.Idx → Elt F .f32, ⌜∀ i, (i 0).val / 512 < n → f i = scanned (xAt m c) i⌝
    ∗ oM.view.loc (c : Thread nD τ) ↦{fullShare} f)

/-- Starting the copy of block `b`. -/
theorem wp_issue (c : Dev nD) (b : Fin 16) {α : Type} {Q : α → sProp 𝕄} {k : PUnit → Prog (TpuEff nD τ sig (Elt F) Λ₀ .tc) α}
    {hsrc : (blkM b).view.WordExact} {hdst : (halfM (par b)).view.WordExact}
    {hsem : DmaTarget.Typed .hbm (.dma (loadS (par b))) (.here (halfM (par b)) : DmaTarget nD τ sig .tc .vmem S512x1024 .f32)} :
    Idle m c (par b)
      ⊢ iprop((Fly m c b -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (blkM b) (.here (halfM (par b))) (.dma (loadS (par b))) hsrc hdst hsem) k) Q) := by
  unfold Idle Fly
  iintro ⟨⟨%f, Hh⟩, Hs, Hx⟩ Hk
  ihave Hx := (pointsTo_split_subset (Finset.subset_univ (blkM b).view.set)).1 $$ Hx
  icases Hx with ⟨Hb, Hr⟩
  iapply (Transfers.wp_dmaLocal (countersEmb (U := UU)) 𝒱₀ (c : Thread nD τ) none (src := blkM b) (dst := halfM (par b)) (hsrc := hsrc) (hdst := hdst)
      (hsem := hsem) (fd := f) () NL rfl NL_pos (Finset.Subset.refl _))
    $$ [Hb Hh Hs]
  · isplitl [Hb]; · iexact Hb
    isplitl [Hh]; · iexact Hh
    iexact Hs
  iintro Hf
  iapply Hk
  isplitl [Hf]
  · iexists f; iexact Hf
  iexact Hr

/-- Block `b`'s step: the wait for it, its load, the store of its running sums; the continuation runs at the block. -/
theorem wp_block (c : Dev nD) (b : Fin 16) {α : Type} {Q : α → sProp 𝕄}
    {S : Vec F S1x512x1024 .f32 → FVec F S512x1024 .f32} {k : Vec F S1x512x1024 .f32 → Prog (TpuEff nD τ sig (Elt F) Λ₀ .tc) α}
    {hsrc : (blkM b).view.WordExact} {hdst : (halfM (par b)).view.WordExact}
    {hl : bM.view.LoadsAt (rHalf (par b)).toLoadRect} {hl' : oM.view.LoadsAt (rBlk b).toLoadRect}
    {hx : (oM.access (rBlk b)).Stores Finset.univ} {hm : (Finset.univ : Finset (rBlk b).shape.Idx) = Finset.univ ∨ ∀ a, (rBlk b).stride a = 1}
    (W : Waits sig Unit) (hS : S (blockOf (xAt m c) b.val) = blockSums (blockOf (xAt m c)) b.val) :
    iprop(Fly m c b ∗ OutTo m c b.val ∗ owes (c : Thread nD τ) (owedRows c 7) W ∗ levAts L lv)
      ⊢ iprop((iprop(Idle m c (par b) ∗ OutTo m c (b.val + 1) ∗ owes (c : Thread nD τ) (owedRows c 7) (insert (SemLoc.dma (loadS (par b)), ()) W))
            -∗ wp frame (wpE (defs₀ (F := F)) 𝒱₀ (c : Thread nD τ) none) Set.univ (k (blockOf (xAt m c) b.val)) Q)
        -∗ wp frame (wpE (defs₀ (F := F)) 𝒱₀ (c : Thread nD τ) none) Set.univ
            (.op (.waitDma2 (loadS (par b)) (blkM b) (halfM (par b)) hsrc hdst) fun _ =>
              .op (.load bM (rHalf (par b)).toLoadRect hl) fun v =>
              .op (.load oM (rBlk b).toLoadRect hl') fun _ =>
              .op (.store oM (rBlk b) (S v) Finset.univ hx hm) fun _ => k v) Q) := by
  unfold Fly OutTo Idle
  iintro ⟨⟨⟨%f, Hf⟩, Hr⟩, ⟨%g, %hg, Ho⟩, HO, #Hlev⟩ Hk
  iapply (Transfers.wp_waitLocalO (countersEmb (U := UU)) 𝒱₀ (c : Thread nD τ) none (srcw := blkM b) (dstw := halfM (par b)) (hsrc := hsrc)
      (hdst := hdst) () (N := NL) rfl) $$ [Hf HO]
  · isplitl [Hf]; · iexact Hf
    isplitl [HO]; · iexact HO
    iapply (mayWait_low c (loadS (par b)) (load_ne_recv _) _ (.inr (.inl rfl))) $$ Hlev
  iintro ⟨⟨Hh, Hb⟩, Hs, HO⟩
  ihave Hx := (pointsTo_split_subset (ℓ := xM.view.loc (c : Thread nD τ)) (Finset.subset_univ (blkM b).view.set)).2 $$ [Hb Hr]
  · isplitl [Hb] <;> iassumption
  iapply (wp_load 𝒱₀ (c : Thread nD τ) none Set.univ (m := bM) (r := (rHalf (par b)).toLoadRect) (S := (halfM (par b)).view.set)
    (by rw [View.set_reshape]; exact (View.set_slice _ _).ge)) $$ Hh
  iintro Hh
  rw [read_half]
  iapply (wp_load 𝒱₀ (c : Thread nD τ) none Set.univ (m := oM) (Finset.subset_univ _)) $$ Ho
  iintro Ho
  iapply (wp_store 𝒱₀ (c : Thread nD τ) none Set.univ (m := oM) (r := rBlk b) (Mk := Finset.univ) (Finset.subset_univ _)) $$ Ho
  iintro Ho
  iapply Hk
  isplitl [Hh Hs Hx]
  · isplitl [Hh]; · iexists _; iexact Hh
    isplitl [Hs]; · iexact Hs
    iexact Hx
  isplitl [Ho]
  · iexists _
    isplitr
    rotate_left
    · iexact Ho
    · ipureintro
      intro i hi
      refine (write_blk b g _ i).trans ?_
      split
      · next h => rw [hS]; unfold scanned; rw [h]
      · next h => exact hg i (by omega)
  iexact HO

end Cert.Scan

end
-- ==== Proof.Handshake.lean ====
/-
# The handshake

The body opens by telling the seven other devices that it has entered, handing each the landing row it is to fill, and
waiting to be told so by all of them. After that every device's landing rows are in the hands of the devices that fill
them.
-/
module

public import proofs.«01_k».proof.Proof.Exchange
public import proofs.«01_k».proof.Proof.Local
public import proofs.«01_k».proof.Proof.Gen.KernelIdeal.Skeleton

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- The device's place along the mesh, as the body's word. -/
abbrev place (c : Dev nD) : BitVec 32 := Scalar.remsi (Scalar.divsi (Dev.word c) 1#32) 8#32
/-- The handshake's semaphore, as the body holds it. -/
abbrev barA : Sems sig S_ := SemArray.scalar (sig.barrier 0 rfl)

/-- The first two signals. -/
theorem wp_part1 (c : Dev nD) {α : Type} {Q : α → sProp 𝕄} {kk : _ → Prog (TpuEff nD τ sig (Elt F) Λ₀ .tc) α} :
    iprop(records m K ∗ SigSt (F := F) c 0)
      ⊢ iprop((SigSt c 2 -∗ ∀ a b d, wp frame (wpE (defs₀ (F := F)) 𝒱₀ (c : Thread nD τ) none) Set.univ (kk ⟨c, place c, barA, a, b, d⟩) Q)
        -∗ wp frame (wpE (defs₀ (F := F)) 𝒱₀ (c : Thread nD τ) none) Set.univ (k0_part1 (F := F) xM (Memref.isWhole_whole _) oM (Memref.isWhole_whole _) bM (Memref.isWhole_whole _) tM (Memref.isWhole_whole _) lM (Memref.isWhole_whole _) cc0_scratch3 cc0_scratch4 cc0_scratch5 >>= kk) Q) := by
  rw [k0_part1_eq_skeleton]; unfold k0_part1_skel
  simp only [Prog.lift, Prog.bind_op, Prog.bind_ret, Prog.pure_eq_ret, semSignalWord, wp_deviceId]
  iintro ⟨#HR, H⟩ Hk
  iapply (wp_signal_row m K c _ 0 (dev1_eq c)) $$ [H]
  · isplitr; · iexact HR
    iexact H
  iintro H
  iapply (wp_signal_row m K c _ 1 (dev2_eq c)) $$ [H]
  · isplitr; · iexact HR
    iexact H
  iintro H
  iapply Hk $$ [H]; iexact H

/-- The next two. -/
theorem wp_part2 (c : Dev nD) (a b d) {α : Type} {Q : α → sProp 𝕄} {kk : _ → Prog (TpuEff nD τ sig (Elt F) Λ₀ .tc) α} :
    iprop(records m K ∗ SigSt (F := F) c 2)
      ⊢ iprop((SigSt c 4 -∗ ∀ a b d, wp frame (wpE (defs₀ (F := F)) 𝒱₀ (c : Thread nD τ) none) Set.univ (kk ⟨a, b, d⟩) Q)
        -∗ wp frame (wpE (defs₀ (F := F)) 𝒱₀ (c : Thread nD τ) none) Set.univ (k0_part2 (F := F) xM (Memref.isWhole_whole _) oM (Memref.isWhole_whole _) bM (Memref.isWhole_whole _) tM (Memref.isWhole_whole _) lM (Memref.isWhole_whole _) cc0_scratch3 cc0_scratch4 cc0_scratch5 c (place c) barA a b d >>= kk) Q) := by
  rw [k0_part2_eq_skeleton]; unfold k0_part2_skel
  simp only [Prog.lift, Prog.bind_op, Prog.bind_ret, Prog.pure_eq_ret, semSignalWord]
  iintro ⟨#HR, H⟩ Hk
  iapply (wp_signal_row m K c _ 2 (dev3_eq c)) $$ [H]
  · isplitr; · iexact HR
    iexact H
  iintro H
  iapply (wp_signal_row m K c _ 3 (dev4_eq c)) $$ [H]
  · isplitr; · iexact HR
    iexact H
  iintro H
  iapply Hk $$ [H]; iexact H

/-- The last three, and the wait: the rows the device is to fill, on the seven others. -/
theorem wp_part3 (c : Dev nD) (a b d) {α : Type} {Q : α → sProp 𝕄} {kk : _ → Prog (TpuEff nD τ sig (Elt F) Λ₀ .tc) α} :
    iprop(records m K ∗ levAts L lv ∗ SigSt (F := F) c 4 ∗ cred (tallyAt (barCell c) () 7) ∗ atPos ER (barCell c) 0 ∅ 0)
      ⊢ iprop(((∃ W, owes (c : Thread nD τ) (owedRows c 7) W) -∗ semVal (barCell c) 0
            -∗ (bigSep Finset.univ fun k => iprop(∃ f, rowPts (tgt c k) k f))
            -∗ wp frame (wpE (defs₀ (F := F)) 𝒱₀ (c : Thread nD τ) none) Set.univ (kk ⟨iota .tc S512x512 32 [0] iota_S512x512_d0_w32, iota .tc S512x512 32 [1] iota_S512x512_d1_w32⟩) Q)
        -∗ wp frame (wpE (defs₀ (F := F)) 𝒱₀ (c : Thread nD τ) none) Set.univ (k0_part3 (F := F) xM (Memref.isWhole_whole _) oM (Memref.isWhole_whole _) bM (Memref.isWhole_whole _) tM (Memref.isWhole_whole _) lM (Memref.isWhole_whole _) cc0_scratch3 cc0_scratch4 cc0_scratch5 c (place c) barA a b d >>= kk) Q) := by
  rw [k0_part3_eq_skeleton]; unfold k0_part3_skel
  simp only [Prog.lift, Prog.bind_op, Prog.bind_ret, Prog.pure_eq_ret, semSignalWord, semWaitWord]
  iintro ⟨#HR, #Hlev, H, Hc, Hat⟩ Hk
  iapply (wp_signal_row m K c _ 4 (dev5_eq c)) $$ [H]
  · isplitr; · iexact HR
    iexact H
  iintro H
  iapply (wp_signal_row m K c _ 5 (dev6_eq c)) $$ [H]
  · isplitr; · iexact HR
    iexact H
  iintro H
  iapply (wp_signal_row m K c _ 6 (dev7_eq c)) $$ [H]
  · isplitr; · iexact HR
    iexact H
  iintro H
  iapply (wp_wait_bar m K c) $$ [H Hc Hat]
  · isplitr; · iexact HR
    isplitr; · iexact Hlev
    isplitl [H]; · iexact H
    isplitl [Hc] <;> iassumption
  iexact Hk

end Cert.Scan

end
-- ==== Proof.Scanning.lean ====
/-
# The scan of the sixteen blocks

The blocks are read ahead by one: while block `b` is scanned, block `b + 1` is on its way. Two states alternate: one
block on its way and the other half idle; two blocks on their way. The parts of the body the scan is cut into are
crossed by the two steps between them.
-/
module

public import proofs.«01_k».proof.Proof.Local
public import proofs.«01_k».proof.Proof.Gen.KernelIdeal.Skeleton

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The two states -/

/-- Block `b` on its way, the other half idle, the blocks before `b` scanned. -/
def One (c : Dev nD) (b : ℕ) (hb : b < 16) : sProp 𝕄 :=
  iprop(Fly m c ⟨b, hb⟩ ∗ Idle m c ⟨(b + 1) % 2, Nat.mod_lt _ (by decide)⟩ ∗ OutTo m c b
    ∗ (∃ W, owes (c : Thread nD τ) (owedRows c 7) W) ∗ levAts L lv)

/-- Blocks `b` and `b + 1` on their way, the blocks before `b` scanned. -/
def Two (c : Dev nD) (b : ℕ) (hb : b + 1 < 16) : sProp 𝕄 :=
  iprop(Fly m c ⟨b, Nat.lt_of_succ_lt hb⟩ ∗ Fly m c ⟨b + 1, hb⟩ ∗ OutTo m c b
    ∗ (∃ W, owes (c : Thread nD τ) (owedRows c 7) W) ∗ levAts L lv)

/-- All blocks scanned, both halves idle. -/
def Done (c : Dev nD) : sProp 𝕄 :=
  iprop(Idle m c 0 ∗ Idle m c 1 ∗ OutTo m c 16 ∗ (∃ W, owes (c : Thread nD τ) (owedRows c 7) W))

/-- Starting the first block. -/
theorem wp_first (c : Dev nD) {α : Type} {Q : α → sProp 𝕄} {k : PUnit → Prog (TpuEff nD τ sig (Elt F) Λ₀ .tc) α}
    {hsrc : (blkM 0).view.WordExact} {hdst : (halfM 0).view.WordExact}
    {hsem : DmaTarget.Typed .hbm (.dma (loadS 0)) (.here (halfM 0) : DmaTarget nD τ sig .tc .vmem S512x1024 .f32)} :
    iprop(Idle m c 0 ∗ Idle m c 1 ∗ OutTo m c 0 ∗ (∃ W, owes (c : Thread nD τ) (owedRows c 7) W) ∗ levAts L lv)
      ⊢ iprop((One m c 0 (by decide) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (blkM 0) (.here (halfM 0)) (.dma (loadS 0)) hsrc hdst hsem) k) Q) := by
  iintro ⟨H0, H1, Ho, HO, Hl⟩ Hk
  iapply (wp_issue m c 0 (hsrc := hsrc) (hdst := hdst) (hsem := hsem)) $$ [H0]
  · iexact H0
  iintro Hf
  iapply Hk
  unfold One
  isplitl [Hf]; · iexact Hf
  isplitl [H1]; · iexact H1
  isplitl [Ho]; · iexact Ho
  isplitl [HO] <;> iassumption

/-- Starting the next block. -/
theorem wp_next (c : Dev nD) (b : ℕ) (hb : b + 1 < 16) {α : Type} {Q : α → sProp 𝕄} {k : PUnit → Prog (TpuEff nD τ sig (Elt F) Λ₀ .tc) α}
    {hsrc : (blkM ⟨b + 1, hb⟩).view.WordExact} {hdst : (halfM (par ⟨b + 1, hb⟩)).view.WordExact}
    {hsem : DmaTarget.Typed .hbm (.dma (loadS (par ⟨b + 1, hb⟩))) (.here (halfM (par ⟨b + 1, hb⟩)) : DmaTarget nD τ sig .tc .vmem S512x1024 .f32)} :
    One m c b (Nat.lt_of_succ_lt hb)
      ⊢ iprop((Two m c b hb -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (blkM ⟨b + 1, hb⟩) (.here (halfM (par ⟨b + 1, hb⟩))) (.dma (loadS (par ⟨b + 1, hb⟩))) hsrc hdst hsem) k) Q) := by
  unfold One
  iintro ⟨Hf, Hi, Ho, HO, Hl⟩ Hk
  iapply (wp_issue m c ⟨b + 1, hb⟩ (hsrc := hsrc) (hdst := hdst) (hsem := hsem)) $$ [Hi]
  · iexact Hi
  iintro Hn
  iapply Hk
  unfold Two
  isplitl [Hf]; · iexact Hf
  isplitl [Hn]; · iexact Hn
  isplitl [Ho]; · iexact Ho
  isplitl [HO] <;> iassumption

/-- Scanning a block with the next on its way. -/
theorem wp_scan (c : Dev nD) (b : ℕ) (hb : b + 1 < 16) {α : Type} {Q : α → sProp 𝕄}
    {S : Vec F S1x512x1024 .f32 → FVec F S512x1024 .f32} {k : Vec F S1x512x1024 .f32 → Prog (TpuEff nD τ sig (Elt F) Λ₀ .tc) α}
    {hsrc : (blkM ⟨b, Nat.lt_of_succ_lt hb⟩).view.WordExact} {hdst : (halfM (par ⟨b, Nat.lt_of_succ_lt hb⟩)).view.WordExact}
    {hl : bM.view.LoadsAt (rHalf (par ⟨b, Nat.lt_of_succ_lt hb⟩)).toLoadRect} {hl' : oM.view.LoadsAt (rBlk ⟨b, Nat.lt_of_succ_lt hb⟩).toLoadRect}
    {hx : (oM.access (rBlk ⟨b, Nat.lt_of_succ_lt hb⟩)).Stores Finset.univ}
    {hm : (Finset.univ : Finset (rBlk ⟨b, Nat.lt_of_succ_lt hb⟩).shape.Idx) = Finset.univ ∨ ∀ a, (rBlk ⟨b, Nat.lt_of_succ_lt hb⟩).stride a = 1}
    (hS : S (blockOf (xAt m c) b) = blockSums (blockOf (xAt m c)) b) :
    Two m c b hb
      ⊢ iprop((One m c (b + 1) hb -∗ wp frame (wpE (defs₀ (F := F)) 𝒱₀ (c : Thread nD τ) none) Set.univ (k (blockOf (xAt m c) b)) Q)
        -∗ wp frame (wpE (defs₀ (F := F)) 𝒱₀ (c : Thread nD τ) none) Set.univ (.op (.waitDma2 (loadS (par ⟨b, Nat.lt_of_succ_lt hb⟩)) (blkM ⟨b, Nat.lt_of_succ_lt hb⟩) (halfM (par ⟨b, Nat.lt_of_succ_lt hb⟩)) hsrc hdst) fun _ =>
              .op (.load bM (rHalf (par ⟨b, Nat.lt_of_succ_lt hb⟩)).toLoadRect hl) fun v =>
              .op (.load oM (rBlk ⟨b, Nat.lt_of_succ_lt hb⟩).toLoadRect hl') fun _ =>
              .op (.store oM (rBlk ⟨b, Nat.lt_of_succ_lt hb⟩) (S v) Finset.univ hx hm) fun _ => k v) Q) := by
  unfold Two
  iintro ⟨Hf, Hn, Ho, ⟨%W, HO⟩, #Hl⟩ Hk
  iapply (wp_block m c ⟨b, Nat.lt_of_succ_lt hb⟩ (hsrc := hsrc) (hdst := hdst) W hS) $$ [Hf Ho HO]
  · isplitl [Hf]; · iexact Hf
    isplitl [Ho]; · iexact Ho
    isplitl [HO]; · iexact HO
    iexact Hl
  iintro ⟨Hi, Ho, HO⟩
  iapply Hk
  unfold One
  rw [show (⟨(b + 1 + 1) % 2, Nat.mod_lt _ (by decide)⟩ : Fin 2) = par ⟨b, Nat.lt_of_succ_lt hb⟩ from Fin.ext (by show (b + 1 + 1) % 2 = b % 2; omega)]
  isplitl [Hn]; · iexact Hn
  isplitl [Hi]; · iexact Hi
  isplitl [Ho]; · iexact Ho
  isplitl [HO]
  · iexists _; iexact HO
  iexact Hl

/-- Scanning the last block. -/
theorem wp_last (c : Dev nD) {α : Type} {Q : α → sProp 𝕄}
    {S : Vec F S1x512x1024 .f32 → FVec F S512x1024 .f32} {k : Vec F S1x512x1024 .f32 → Prog (TpuEff nD τ sig (Elt F) Λ₀ .tc) α}
    {hsrc : (blkM ⟨15, by decide⟩).view.WordExact} {hdst : (halfM (par ⟨15, by decide⟩)).view.WordExact}
    {hl : bM.view.LoadsAt (rHalf (par ⟨15, by decide⟩)).toLoadRect} {hl' : oM.view.LoadsAt (rBlk ⟨15, by decide⟩).toLoadRect}
    {hx : (oM.access (rBlk ⟨15, by decide⟩)).Stores Finset.univ}
    {hm : (Finset.univ : Finset (rBlk ⟨15, by decide⟩).shape.Idx) = Finset.univ ∨ ∀ a, (rBlk ⟨15, by decide⟩).stride a = 1}
    (hS : S (blockOf (xAt m c) 15) = blockSums (blockOf (xAt m c)) 15) :
    One m c 15 (by decide)
      ⊢ iprop((Done m c -∗ wp frame (wpE (defs₀ (F := F)) 𝒱₀ (c : Thread nD τ) none) Set.univ (k (blockOf (xAt m c) 15)) Q)
        -∗ wp frame (wpE (defs₀ (F := F)) 𝒱₀ (c : Thread nD τ) none) Set.univ (.op (.waitDma2 (loadS (par ⟨15, by decide⟩)) (blkM ⟨15, by decide⟩) (halfM (par ⟨15, by decide⟩)) hsrc hdst) fun _ =>
              .op (.load bM (rHalf (par ⟨15, by decide⟩)).toLoadRect hl) fun v =>
              .op (.load oM (rBlk ⟨15, by decide⟩).toLoadRect hl') fun _ =>
              .op (.store oM (rBlk ⟨15, by decide⟩) (S v) Finset.univ hx hm) fun _ => k v) Q) := by
  unfold One
  iintro ⟨Hf, Hi, Ho, ⟨%W, HO⟩, #Hl⟩ Hk
  iapply (wp_block m c ⟨15, Nat.le_of_ble_eq_true rfl⟩ (hsrc := hsrc) (hdst := hdst) W hS) $$ [Hf Ho HO]
  · isplitl [Hf]; · iexact Hf
    isplitl [Ho]; · iexact Ho
    isplitl [HO]; · iexact HO
    iexact Hl
  iintro ⟨Hi', Ho, HO⟩
  iapply Hk
  unfold Done
  isplitl [Hi]; · iexact Hi
  isplitl [Hi']; · iexact Hi'
  isplitl [Ho]; · iexact Ho
  iexists _; iexact HO

/-! ## The steps, at the body's literal offsets -/

/-- The block of the argument at row `o`, half `p` of the block buffer, half `p`'s semaphore. -/
abbrev blkAt (o : ℕ) (h : ∀ a, (![o, 0] : Fin 2 → Nat) a + S512x1024.size a ≤ S8192x1024.size a) : Memref sig .tc .hbm S512x1024 .f32 :=
  xM.slice (Rect.unit (s := S8192x1024) ![o, 0] S512x1024.size h) (fun _ => rfl)
/-- The 512 rows from row `o` on, of the result. -/
abbrev rOut (o : ℕ) (h : ∀ a, (![o, 0] : Fin 2 → Nat) a + S512x1024.size a ≤ S8192x1024.size a) : Rect S8192x1024 :=
  Rect.unit (s := S8192x1024) ![o, 0] S512x1024.size h
/-- Layer `p` of the block buffer. -/
abbrev rIn (p : ℕ) (h : ∀ a, (![p, 0, 0] : Fin 3 → Nat) a + S1x512x1024.size a ≤ S2x512x1024.size a) : Rect S2x512x1024 :=
  Rect.unit (s := S2x512x1024) ![p, 0, 0] S1x512x1024.size h
/-- Layer `p` of the block buffer, as a buffer of one block. -/
abbrev halfAt (p : ℕ) (h : ∀ a, (![p, 0, 0] : Fin 3 → Nat) a + S1x512x1024.size a ≤ S2x512x1024.size a) : Memref sig .tc .vmem S512x1024 .f32 :=
  (bM.slice (rIn p h) (fun _ => rfl)).squeeze S512x1024 squeezes_S1x512x1024_S512x1024
/-- The semaphore of the copies into layer `p`. -/
abbrev loadAt (p : ℕ) (h : ∀ a, (![p] : Fin 1 → Nat) a + S1.size a ≤ S2.size a) : DmaSem sig :=
  ((cc0_scratch3.slice (Rect.unit (s := S2) ![p] S1.size h)).squeeze S_ squeezes_S1_S_ : DmaSems sig S_).sem

/-- The start of the next block's copy, at the offsets the body writes out. -/
theorem wp_next_at (c : Dev nD) (b : ℕ) (hb : b + 1 < 16) {o p : ℕ} (ho : o = 512 * (b + 1)) (hp : p = (b + 1) % 2)
    {α : Type} {Q : α → sProp 𝕄} {k : PUnit → Prog (TpuEff nD τ sig (Elt F) Λ₀ .tc) α} {h₁ h₂ h₃}
    {hsrc : (blkAt o h₁).view.WordExact} {hdst : (halfAt p h₂).view.WordExact}
    {hsem : DmaTarget.Typed .hbm (.dma (loadAt p h₃)) (.here (halfAt p h₂) : DmaTarget nD τ sig .tc .vmem S512x1024 .f32)} :
    One m c b (Nat.lt_of_succ_lt hb)
      ⊢ iprop((Two m c b hb -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (blkAt o h₁) (.here (halfAt p h₂)) (.dma (loadAt p h₃)) hsrc hdst hsem) k) Q) := by
  subst ho hp
  exact wp_next m c b hb

/-- A block's wait, scan and store, at the offsets the body writes out. -/
theorem wp_scan_at (c : Dev nD) (b : ℕ) (hb : b + 1 < 16) {o p : ℕ} (ho : o = 512 * b) (hp : p = b % 2) {α : Type} {Q : α → sProp 𝕄}
    {S : Vec F S1x512x1024 .f32 → FVec F S512x1024 .f32} {k : Vec F S1x512x1024 .f32 → Prog (TpuEff nD τ sig (Elt F) Λ₀ .tc) α}
    {h₁ h₂ h₃ h₄ h₅ h₆} {hsrc : (blkAt o h₁).view.WordExact} {hdst : (halfAt p h₂).view.WordExact}
    {hl : bM.view.LoadsAt (rIn p h₄).toLoadRect} {hl' : oM.view.LoadsAt (rOut o h₅).toLoadRect}
    {hx : (oM.access (rOut o h₆)).Stores Finset.univ}
    {hm : (Finset.univ : Finset (rOut o h₆).shape.Idx) = Finset.univ ∨ ∀ a, (rOut o h₆).stride a = 1}
    (hS : S (blockOf (xAt m c) b) = blockSums (blockOf (xAt m c)) b) :
    Two m c b hb
      ⊢ iprop((One m c (b + 1) hb -∗ wp frame (wpE (defs₀ (F := F)) 𝒱₀ (c : Thread nD τ) none) Set.univ (k (blockOf (xAt m c) b)) Q)
        -∗ wp frame (wpE (defs₀ (F := F)) 𝒱₀ (c : Thread nD τ) none) Set.univ (.op (.waitDma2 (loadAt p h₃) (blkAt o h₁) (halfAt p h₂) hsrc hdst) fun _ =>
              .op (.load bM (rIn p h₄).toLoadRect hl) fun v =>
              .op (.load oM (rOut o h₅).toLoadRect hl') fun _ =>
              .op (.store oM (rOut o h₆) (S v) Finset.univ hx hm) fun _ => k v) Q) := by
  subst ho hp
  exact wp_scan m c b hb hS

/-! ## The parts -/

/-- Blocks 0 and 1 started, block 0 scanned. -/
theorem wp_part4 (c : Dev nD) {α : Type} {Q : α → sProp 𝕄} {kk : _ → Prog (TpuEff nD τ sig (Elt F) Λ₀ .tc) α} :
    iprop(Idle m c 0 ∗ Idle m c 1 ∗ OutTo m c 0 ∗ (∃ W, owes (c : Thread nD τ) (owedRows c 7) W) ∗ levAts L lv)
      ⊢ iprop((One m c 1 (by decide) -∗ wp frame (wpE (defs₀ (F := F)) 𝒱₀ (c : Thread nD τ) none) Set.univ (kk ⟨tri, carry (blockOf (xAt m c)) 1⟩) Q)
        -∗ wp frame (wpE (defs₀ (F := F)) 𝒱₀ (c : Thread nD τ) none) Set.univ (k0_part4 (F := F) xM (Memref.isWhole_whole _) oM (Memref.isWhole_whole _) bM (Memref.isWhole_whole _) tM (Memref.isWhole_whole _) lM (Memref.isWhole_whole _) cc0_scratch3 cc0_scratch4 cc0_scratch5 (iota .tc S512x512 32 [0] iota_S512x512_d0_w32) (iota .tc S512x512 32 [1] iota_S512x512_d1_w32) >>= kk) Q) := by
  rw [k0_part4_eq_skeleton]; unfold k0_part4_skel
  simp only [Prog.lift, Prog.bind_op, Prog.bind_ret, Prog.pure_eq_ret]
  iintro H Hk
  iapply (wp_first m c) $$ H; iintro H
  iapply (wp_next_at m c 0 (Nat.le_of_ble_eq_true rfl) rfl rfl) $$ H; iintro H
  iapply (wp_scan_at m c 0 (Nat.le_of_ble_eq_true rfl) rfl rfl rfl) $$ H; iintro H
  iapply Hk $$ H

/-- Blocks 2, 3 and 4 started, blocks 1, 2 and 3 scanned. -/
theorem wp_part56 (c : Dev nD) {α : Type} {Q : α → sProp 𝕄} {kk : _ → Prog (TpuEff nD τ sig (Elt F) Λ₀ .tc) α} :
    One m c 1 (by decide)
      ⊢ iprop((One m c 4 (by decide) -∗ wp frame (wpE (defs₀ (F := F)) 𝒱₀ (c : Thread nD τ) none) Set.univ (kk (carry (blockOf (xAt m c)) 4)) Q)
        -∗ wp frame (wpE (defs₀ (F := F)) 𝒱₀ (c : Thread nD τ) none) Set.univ (k0_part5 (F := F) xM (Memref.isWhole_whole _) oM (Memref.isWhole_whole _) bM (Memref.isWhole_whole _) tM (Memref.isWhole_whole _) lM (Memref.isWhole_whole _) cc0_scratch3 cc0_scratch4 cc0_scratch5 tri (carry (blockOf (xAt m c)) 1) >>= fun v => k0_part6 (F := F) xM (Memref.isWhole_whole _) oM (Memref.isWhole_whole _) bM (Memref.isWhole_whole _) tM (Memref.isWhole_whole _) lM (Memref.isWhole_whole _) cc0_scratch3 cc0_scratch4 cc0_scratch5 tri v >>= kk) Q) := by
  rw [k0_part5_eq_skeleton, k0_part6_eq_skeleton]; unfold k0_part5_skel k0_part6_skel
  simp only [Prog.lift, Prog.bind_op, Prog.bind_ret, Prog.pure_eq_ret]
  iintro H Hk
  iapply (wp_next_at m c 1 (Nat.le_of_ble_eq_true rfl) rfl rfl) $$ H; iintro H
  iapply (wp_scan_at m c 1 (Nat.le_of_ble_eq_true rfl) rfl rfl rfl) $$ H; iintro H
  iapply (wp_next_at m c 2 (Nat.le_of_ble_eq_true rfl) rfl rfl) $$ H; iintro H
  iapply (wp_scan_at m c 2 (Nat.le_of_ble_eq_true rfl) rfl rfl rfl) $$ H; iintro H
  iapply (wp_next_at m c 3 (Nat.le_of_ble_eq_true rfl) rfl rfl) $$ H; iintro H
  iapply (wp_scan_at m c 3 (Nat.le_of_ble_eq_true rfl) rfl rfl rfl) $$ H; iintro H
  iapply Hk $$ H

/-- Blocks 5, 6, 7 and 8 started, blocks 4, 5 and 6 scanned. -/
theorem wp_part78 (c : Dev nD) {α : Type} {Q : α → sProp 𝕄} {kk : _ → Prog (TpuEff nD τ sig (Elt F) Λ₀ .tc) α} :
    One m c 4 (by decide)
      ⊢ iprop((Two m c 7 (by decide) -∗ wp frame (wpE (defs₀ (F := F)) 𝒱₀ (c : Thread nD τ) none) Set.univ (kk (carry (blockOf (xAt m c)) 7)) Q)
        -∗ wp frame (wpE (defs₀ (F := F)) 𝒱₀ (c : Thread nD τ) none) Set.univ (k0_part7 (F := F) xM (Memref.isWhole_whole _) oM (Memref.isWhole_whole _) bM (Memref.isWhole_whole _) tM (Memref.isWhole_whole _) lM (Memref.isWhole_whole _) cc0_scratch3 cc0_scratch4 cc0_scratch5 tri (carry (blockOf (xAt m c)) 4) >>= fun v => k0_part8 (F := F) xM (Memref.isWhole_whole _) oM (Memref.isWhole_whole _) bM (Memref.isWhole_whole _) tM (Memref.isWhole_whole _) lM (Memref.isWhole_whole _) cc0_scratch3 cc0_scratch4 cc0_scratch5 tri v >>= kk) Q) := by
  rw [k0_part7_eq_skeleton, k0_part8_eq_skeleton]; unfold k0_part7_skel k0_part8_skel
  simp only [Prog.lift, Prog.bind_op, Prog.bind_ret, Prog.pure_eq_ret]
  iintro H Hk
  iapply (wp_next_at m c 4 (Nat.le_of_ble_eq_true rfl) rfl rfl) $$ H; iintro H
  iapply (wp_scan_at m c 4 (Nat.le_of_ble_eq_true rfl) rfl rfl rfl) $$ H; iintro H
  iapply (wp_next_at m c 5 (Nat.le_of_ble_eq_true rfl) rfl rfl) $$ H; iintro H
  iapply (wp_scan_at m c 5 (Nat.le_of_ble_eq_true rfl) rfl rfl rfl) $$ H; iintro H
  iapply (wp_next_at m c 6 (Nat.le_of_ble_eq_true rfl) rfl rfl) $$ H; iintro H
  iapply (wp_scan_at m c 6 (Nat.le_of_ble_eq_true rfl) rfl rfl rfl) $$ H; iintro H
  iapply (wp_next_at m c 7 (Nat.le_of_ble_eq_true rfl) rfl rfl) $$ H; iintro H
  iapply Hk $$ H

/-- Block 9 started, blocks 7 and 8 scanned. -/
theorem wp_part9 (c : Dev nD) {α : Type} {Q : α → sProp 𝕄} {kk : _ → Prog (TpuEff nD τ sig (Elt F) Λ₀ .tc) α} :
    Two m c 7 (by decide)
      ⊢ iprop((One m c 9 (by decide) -∗ wp frame (wpE (defs₀ (F := F)) 𝒱₀ (c : Thread nD τ) none) Set.univ (kk (carry (blockOf (xAt m c)) 9)) Q)
        -∗ wp frame (wpE (defs₀ (F := F)) 𝒱₀ (c : Thread nD τ) none) Set.univ (k0_part9 (F := F) xM (Memref.isWhole_whole _) oM (Memref.isWhole_whole _) bM (Memref.isWhole_whole _) tM (Memref.isWhole_whole _) lM (Memref.isWhole_whole _) cc0_scratch3 cc0_scratch4 cc0_scratch5 tri (carry (blockOf (xAt m c)) 7) >>= kk) Q) := by
  rw [k0_part9_eq_skeleton]; unfold k0_part9_skel
  simp only [Prog.lift, Prog.bind_op, Prog.bind_ret, Prog.pure_eq_ret]
  iintro H Hk
  iapply (wp_scan_at m c 7 (Nat.le_of_ble_eq_true rfl) rfl rfl rfl) $$ H; iintro H
  iapply (wp_next_at m c 8 (Nat.le_of_ble_eq_true rfl) rfl rfl) $$ H; iintro H
  iapply (wp_scan_at m c 8 (Nat.le_of_ble_eq_true rfl) rfl rfl rfl) $$ H; iintro H
  iapply Hk $$ H

/-- Blocks 10 and 11 started, block 9 scanned. -/
theorem wp_part10 (c : Dev nD) {α : Type} {Q : α → sProp 𝕄} {kk : _ → Prog (TpuEff nD τ sig (Elt F) Λ₀ .tc) α} :
    One m c 9 (by decide)
      ⊢ iprop((Two m c 10 (by decide) -∗ wp frame (wpE (defs₀ (F := F)) 𝒱₀ (c : Thread nD τ) none) Set.univ (kk (carry (blockOf (xAt m c)) 10)) Q)
        -∗ wp frame (wpE (defs₀ (F := F)) 𝒱₀ (c : Thread nD τ) none) Set.univ (k0_part10 (F := F) xM (Memref.isWhole_whole _) oM (Memref.isWhole_whole _) bM (Memref.isWhole_whole _) tM (Memref.isWhole_whole _) lM (Memref.isWhole_whole _) cc0_scratch3 cc0_scratch4 cc0_scratch5 tri (carry (blockOf (xAt m c)) 9) >>= kk) Q) := by
  rw [k0_part10_eq_skeleton]; unfold k0_part10_skel
  simp only [Prog.lift, Prog.bind_op, Prog.bind_ret, Prog.pure_eq_ret]
  iintro H Hk
  iapply (wp_next_at m c 9 (Nat.le_of_ble_eq_true rfl) rfl rfl) $$ H; iintro H
  iapply (wp_scan_at m c 9 (Nat.le_of_ble_eq_true rfl) rfl rfl rfl) $$ H; iintro H
  iapply (wp_next_at m c 10 (Nat.le_of_ble_eq_true rfl) rfl rfl) $$ H; iintro H
  iapply Hk $$ H

/-- Block 12 started, blocks 10 and 11 scanned. -/
theorem wp_part11 (c : Dev nD) {α : Type} {Q : α → sProp 𝕄} {kk : _ → Prog (TpuEff nD τ sig (Elt F) Λ₀ .tc) α} :
    Two m c 10 (by decide)
      ⊢ iprop((One m c 12 (by decide) -∗ wp frame (wpE (defs₀ (F := F)) 𝒱₀ (c : Thread nD τ) none) Set.univ (kk (carry (blockOf (xAt m c)) 12)) Q)
        -∗ wp frame (wpE (defs₀ (F := F)) 𝒱₀ (c : Thread nD τ) none) Set.univ (k0_part11 (F := F) xM (Memref.isWhole_whole _) oM (Memref.isWhole_whole _) bM (Memref.isWhole_whole _) tM (Memref.isWhole_whole _) lM (Memref.isWhole_whole _) cc0_scratch3 cc0_scratch4 cc0_scratch5 tri (carry (blockOf (xAt m c)) 10) >>= kk) Q) := by
  rw [k0_part11_eq_skeleton]; unfold k0_part11_skel
  simp only [Prog.lift, Prog.bind_op, Prog.bind_ret, Prog.pure_eq_ret]
  iintro H Hk
  iapply (wp_scan_at m c 10 (Nat.le_of_ble_eq_true rfl) rfl rfl rfl) $$ H; iintro H
  iapply (wp_next_at m c 11 (Nat.le_of_ble_eq_true rfl) rfl rfl) $$ H; iintro H
  iapply (wp_scan_at m c 11 (Nat.le_of_ble_eq_true rfl) rfl rfl rfl) $$ H; iintro H
  iapply Hk $$ H

end Cert.Scan

end
-- ==== Proof.Copying.lean ====
/-
# The column totals go round

With the last block scanned the device stores its column totals, sends them into a landing row of every other device,
and waits for the seven sends and the seven rows. At the end of it the landing buffer holds the other devices' totals,
the device's own totals are whole again, and the fourteen cells are closed.
-/
module

public import proofs.«01_k».proof.Proof.Exchange
public import proofs.«01_k».proof.Proof.Scanning
public import proofs.«01_k».proof.Proof.Handshake
public import Idealize.ShloMosaic.Lib.ValueLayout

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-! ## Into and out of the exchange's states -/

/-- What the copies need besides the totals: their tokens and the rows they fill. -/
def CopyRes (c : Dev nD) : sProp 𝕄 :=
  iprop((bigSep Finset.univ fun k => dutyTok ER (sendCell k c) 0 (0 : Fin 7)) ∗ (bigSep Finset.univ fun k => dutyTok ER (recvCell k (tgt c k)) 0 (0 : Fin 7))
    ∗ bigSep Finset.univ fun k => iprop(∃ f, rowPts (F := F) (tgt c k) k f))

/-- What the waits need besides the sends' credits: the receives' credits and the positions. -/
def WaitRes (c : Dev nD) : sProp 𝕄 :=
  iprop((bigSep Finset.univ fun k => atPos ER (sendCell k c) 0 ∅ 0) ∗ (bigSep Finset.univ fun k => cred (tallyAt (recvCell k c) () N))
    ∗ bigSep Finset.univ fun k => atPos ER (recvCell k c) 0 ∅ 0)

/-- The totals stored, the copies can start. -/
theorem copy_start (c : Dev nD) :
    iprop((∃ W, owes (c : Thread nD τ) (owedRows c 7) W) ∗ CopyRes c ∗ tM.view.loc (c : Thread nD τ) ↦{fullShare} totals (xAt m c))
      ⊢ CopySt m c 0 := by
  unfold CopySt CopyRes
  rw [rowsFrom_zero, rowsTo_zero, bigSep_empty]
  rw [bigSep_sep' Finset.univ (fun k => dutyTok ER (sendCell k c) 0 (0 : Fin 7)) _, bigSep_sep' Finset.univ (fun k => dutyTok ER (recvCell k (tgt c k)) 0 (0 : Fin 7)) _,
    bigSep_sep' Finset.univ (fun k => totPts m c k) _, ← tots_eq]
  unfold totRest
  rw [show (tM : Memref sig .tc .vmem S1x1024 .f32).view.set = Finset.univ from View.set_whole _]
  iintro ⟨HO, ⟨Hs, Hr, Hrow⟩, Ht⟩
  isplitl [HO]; · iexact HO
  isplitl [Hs Hr Hrow Ht]
  · isplitl [Hs]; · iexact Hs
    isplitl [Hr]; · iexact Hr
    isplitl [Ht]; · iexact Ht
    iexact Hrow
  iempintro

/-- The copies started, the waits can. -/
theorem wait_start (c : Dev nD) : iprop(CopySt m c 7 ∗ WaitRes c) ⊢ WaitSt m c 0 := by
  unfold CopySt WaitSt WaitRes
  rw [rowsFrom_seven, rowsTo_seven, rowsFrom_zero, rowsTo_zero, bigSep_empty, bigSep_empty,
    bigSep_sep' Finset.univ (fun k => iprop(cred (tallyAt (sendCell k c) () N) ∗ atPos ER (sendCell k c) 0 ∅ 0)) _,
    bigSep_sep' Finset.univ (fun k => cred (tallyAt (sendCell k c) () N)) _, bigSep_sep' Finset.univ (fun k => cred (tallyAt (recvCell k c) () N)) _]
  iintro ⟨⟨HO, -, Hc⟩, Ha, Hcr, Har⟩
  isplitl [HO]; · iexact HO
  isplitl [Hc Ha Hcr Har]
  · isplitl [Hc Ha]
    · isplitl [Hc] <;> iassumption
    isplitl [Hcr] <;> iassumption
  iempintro

/-- The waits done: the totals whole, the landing buffer whole, the cells at zero. -/
theorem wait_end (c : Dev nD) :
    WaitSt m c 7 ⊢ iprop((∃ W, owes (c : Thread nD τ) 0 W) ∗ (tM.view.loc (c : Thread nD τ) ↦{fullShare} totals (xAt m c))
      ∗ (lM.view.loc (c : Thread nD τ) ↦{fullShare} landing m c)
      ∗ (bigSep Finset.univ fun k => semVal (sendCell k c) 0) ∗ bigSep Finset.univ fun k => semVal (recvCell k c) 0) := by
  unfold WaitSt
  rw [rowsFrom_seven, rowsTo_seven, bigSep_empty,
    bigSep_sep' Finset.univ (fun k => iprop(totPts m c k ∗ semVal (sendCell k c) 0)) _,
    bigSep_sep' Finset.univ (fun k => totPts m c k) _, bigSep_sep' Finset.univ (fun k => rowPts c k (landing m c)) _, ← tots_eq, ← rows_eq]
  unfold totRest
  rw [show (tM : Memref sig .tc .vmem S1x1024 .f32).view.set = Finset.univ from View.set_whole _]
  iintro ⟨HO, -, ⟨Ht, Hs⟩, Hl, Hr⟩
  isplitl [HO]; · iexact HO
  isplitl [Ht]; · iexact Ht
  isplitl [Hl]; · iexact Hl
  isplitl [Hs] <;> iassumption

/-! ## The parts -/

/-- Two zero offsets are zero everywhere. -/
theorem offs_zero2 : (![0, 0] : Fin 2 → Nat) = fun _ => 0 := funext fun a => by fin_cases a <;> rfl

omit [FloatOps F] in
/-- A row stored over the whole of the totals' buffer is what the buffer then holds. -/
theorem write_tot (h : ∀ a, (![0, 0] : Fin 2 → Nat) a + S1x1024.size a ≤ S1x1024.size a) (f w : (cc0_scratch1 : Ref sig .tc).ty.Contents (Elt F)) :
    ((tM : Memref sig .tc .vmem S1x1024 .f32).access (Rect.unit (s := S1x1024) ![0, 0] S1x1024.size h) : View sig .tc _ _ _).write (Elt F) f w Finset.univ = w :=
  Memref.write_access_unit_zero_univ (Elt F) cc0_scratch1 offs_zero2 _ f w

/-- What the body stores as its totals, from the last block. -/
theorem totals_eq (c : Dev nD) : k0_pay29 (F := F) tri (carry (blockOf (xAt m c)) 15) (blockOf (xAt m c) 15) = totals (xAt m c) :=
  shapeCast_self _ _

/-- Blocks 13, 14 and 15 started, blocks 12 to 15 scanned, the totals stored, the first copy started. -/
theorem wp_part14 (c : Dev nD) {α : Type} {Q : α → sProp 𝕄} {kk : _ → Prog (TpuEff nD τ sig (Elt F) Λ₀ .tc) α} :
    iprop(records m K ∗ One m c 12 (by decide) ∗ CopyRes c ∗ ∃ f, tM.view.loc (c : Thread nD τ) ↦{fullShare} f)
      ⊢ iprop((Idle m c 0 -∗ Idle m c 1 -∗ OutTo m c 16 -∗ CopySt m c 1 -∗ ∀ a b d, wp frame (wpE (defs₀ (F := F)) 𝒱₀ (c : Thread nD τ) none) Set.univ (kk ⟨a, b, d⟩) Q)
        -∗ wp frame (wpE (defs₀ (F := F)) 𝒱₀ (c : Thread nD τ) none) Set.univ (k0_part12 (F := F) xM (Memref.isWhole_whole _) oM (Memref.isWhole_whole _) bM (Memref.isWhole_whole _) tM (Memref.isWhole_whole _) lM (Memref.isWhole_whole _) cc0_scratch3 cc0_scratch4 cc0_scratch5 tri (carry (blockOf (xAt m c)) 12) >>= fun x =>
            k0_part13 (F := F) xM (Memref.isWhole_whole _) oM (Memref.isWhole_whole _) bM (Memref.isWhole_whole _) tM (Memref.isWhole_whole _) lM (Memref.isWhole_whole _) cc0_scratch3 cc0_scratch4 cc0_scratch5 tri x.1 x.2 >>= fun v => k0_part14 (F := F) xM (Memref.isWhole_whole _) oM (Memref.isWhole_whole _) bM (Memref.isWhole_whole _) tM (Memref.isWhole_whole _) lM (Memref.isWhole_whole _) cc0_scratch3 cc0_scratch4 cc0_scratch5 c (place c) tri v >>= kk) Q) := by
  rw [k0_part12_eq_skeleton, k0_part13_eq_skeleton, k0_part14_eq_skeleton]; unfold k0_part12_skel k0_part13_skel k0_part14_skel
  simp only [Prog.lift, Prog.bind_op, Prog.bind_ret, Prog.pure_eq_ret]
  iintro ⟨#HR, H, Hres, ⟨%f, Ht⟩⟩ Hk
  iapply (wp_next_at m c 12 (Nat.le_of_ble_eq_true rfl) rfl rfl) $$ H; iintro H
  iapply (wp_scan_at m c 12 (Nat.le_of_ble_eq_true rfl) rfl rfl rfl) $$ H; iintro H
  iapply (wp_next_at m c 13 (Nat.le_of_ble_eq_true rfl) rfl rfl) $$ H; iintro H
  iapply (wp_scan_at m c 13 (Nat.le_of_ble_eq_true rfl) rfl rfl rfl) $$ H; iintro H
  iapply (wp_next_at m c 14 (Nat.le_of_ble_eq_true rfl) rfl rfl) $$ H; iintro H
  iapply (wp_scan_at m c 14 (Nat.le_of_ble_eq_true rfl) rfl rfl rfl) $$ H; iintro H
  iapply (wp_last m c rfl) $$ H; iintro H
  unfold Done
  icases H with ⟨H0, H1, Ho, HO⟩
  iapply (wp_load 𝒱₀ (c : Thread nD τ) none Set.univ (m := tM) (Finset.subset_univ _)) $$ Ht; iintro Ht
  iapply (wp_store 𝒱₀ (c : Thread nD τ) none Set.univ (m := tM) (r := Rect.unit (s := S1x1024) ![0, 0] S1x1024.size inb_S1x1024_S1x1024_0_0) (Mk := Finset.univ) (Finset.subset_univ _)) $$ Ht; iintro Ht
  rw [write_tot, show k0_pay29 (F := F) tri (k0_pay27 tri (k0_pay23 tri (carry (blockOf (xAt m c)) 12) (blockOf (xAt m c) 12)) (k0_pay24 (blockOf (xAt m c) 13))
      (blockOf (xAt m c) 14)) (blockOf (xAt m c) 15) = totals (xAt m c) from totals_eq m c]
  ihave HC := (copy_start m c) $$ [HO Hres Ht]
  · isplitl [HO]; · iexact HO
    isplitl [Hres]; · iexact Hres
    iexact Ht
  iapply (wp_copy_row m K c _ 0 (dev8_eq c)) $$ [HC]
  · isplitr; · iexact HR
    iexact HC
  iintro HC
  iapply Hk $$ H0 H1 Ho [HC]
  iexact HC

/-- The second copy. -/
theorem wp_part15 (c : Dev nD) (a b) {α : Type} {Q : α → sProp 𝕄} {kk : _ → Prog (TpuEff nD τ sig (Elt F) Λ₀ .tc) α} :
    iprop(records m K ∗ CopySt m c 1)
      ⊢ iprop((CopySt m c 2 -∗ ∀ a b, wp frame (wpE (defs₀ (F := F)) 𝒱₀ (c : Thread nD τ) none) Set.univ (kk ⟨a, b⟩) Q)
        -∗ wp frame (wpE (defs₀ (F := F)) 𝒱₀ (c : Thread nD τ) none) Set.univ (k0_part15 (F := F) xM (Memref.isWhole_whole _) oM (Memref.isWhole_whole _) bM (Memref.isWhole_whole _) tM (Memref.isWhole_whole _) lM (Memref.isWhole_whole _) cc0_scratch3 cc0_scratch4 cc0_scratch5 c (place c) a b >>= kk) Q) := by
  rw [k0_part15_eq_skeleton]; unfold k0_part15_skel
  simp only [Prog.lift, Prog.bind_op, Prog.bind_ret, Prog.pure_eq_ret]
  iintro ⟨#HR, H⟩ Hk
  iapply (wp_copy_row m K c _ 1 (dev9_eq c)) $$ [H]
  · isplitr; · iexact HR
    iexact H
  iintro H
  iapply Hk $$ [H]; iexact H

/-- The third and fourth. -/
theorem wp_part16 (c : Dev nD) {α : Type} {Q : α → sProp 𝕄} {kk : _ → Prog (TpuEff nD τ sig (Elt F) Λ₀ .tc) α} :
    iprop(records m K ∗ CopySt m c 2)
      ⊢ iprop((CopySt m c 4 -∗ ∀ a b, wp frame (wpE (defs₀ (F := F)) 𝒱₀ (c : Thread nD τ) none) Set.univ (kk ⟨a, b⟩) Q)
        -∗ wp frame (wpE (defs₀ (F := F)) 𝒱₀ (c : Thread nD τ) none) Set.univ (k0_part16 (F := F) xM (Memref.isWhole_whole _) oM (Memref.isWhole_whole _) bM (Memref.isWhole_whole _) tM (Memref.isWhole_whole _) lM (Memref.isWhole_whole _) cc0_scratch3 cc0_scratch4 cc0_scratch5 c (place c) >>= kk) Q) := by
  rw [k0_part16_eq_skeleton]; unfold k0_part16_skel
  simp only [Prog.lift, Prog.bind_op, Prog.bind_ret, Prog.pure_eq_ret]
  iintro ⟨#HR, H⟩ Hk
  iapply (wp_copy_row m K c _ 2 (dev10_eq c)) $$ [H]
  · isplitr; · iexact HR
    iexact H
  iintro H
  iapply (wp_copy_row m K c _ 3 (dev11_eq c)) $$ [H]
  · isplitr; · iexact HR
    iexact H
  iintro H
  iapply Hk $$ [H]; iexact H

/-- The fifth and sixth. -/
theorem wp_part17 (c : Dev nD) {α : Type} {Q : α → sProp 𝕄} {kk : _ → Prog (TpuEff nD τ sig (Elt F) Λ₀ .tc) α} :
    iprop(records m K ∗ CopySt m c 4)
      ⊢ iprop((CopySt m c 6 -∗ ∀ a b d e, wp frame (wpE (defs₀ (F := F)) 𝒱₀ (c : Thread nD τ) none) Set.univ (kk ⟨a, b, d, e⟩) Q)
        -∗ wp frame (wpE (defs₀ (F := F)) 𝒱₀ (c : Thread nD τ) none) Set.univ (k0_part17 (F := F) xM (Memref.isWhole_whole _) oM (Memref.isWhole_whole _) bM (Memref.isWhole_whole _) tM (Memref.isWhole_whole _) lM (Memref.isWhole_whole _) cc0_scratch3 cc0_scratch4 cc0_scratch5 c (place c) >>= kk) Q) := by
  rw [k0_part17_eq_skeleton]; unfold k0_part17_skel
  simp only [Prog.lift, Prog.bind_op, Prog.bind_ret, Prog.pure_eq_ret]
  iintro ⟨#HR, H⟩ Hk
  iapply (wp_copy_row m K c _ 4 (dev12_eq c)) $$ [H]
  · isplitr; · iexact HR
    iexact H
  iintro H
  iapply (wp_copy_row m K c _ 5 (dev13_eq c)) $$ [H]
  · isplitr; · iexact HR
    iexact H
  iintro H
  iapply Hk $$ [H]; iexact H

/-- The last copy, and all the waits. -/
theorem wp_part18 (c : Dev nD) (a b d e g) (u v w x) {α : Type} {Q : α → sProp 𝕄} {kk : _ → Prog (TpuEff nD τ sig (Elt F) Λ₀ .tc) α}
    {h₁ : (tM : Memref sig .tc .vmem S1x1024 .f32).view.WordExact} {h₂ : (rowM 6 : Memref sig .tc .vmem S1x1024 .f32).view.WordExact} :
    iprop(records m K ∗ CopySt m c 6 ∗ WaitRes c)
      ⊢ iprop((WaitSt m c 7 -∗ wp frame (wpE (defs₀ (F := F)) 𝒱₀ (c : Thread nD τ) none) Set.univ (kk ⟨⟩) Q)
        -∗ wp frame (wpE (defs₀ (F := F)) 𝒱₀ (c : Thread nD τ) none) Set.univ (k0_part18 (F := F) xM (Memref.isWhole_whole _) oM (Memref.isWhole_whole _) bM (Memref.isWhole_whole _) tM (Memref.isWhole_whole _) lM (Memref.isWhole_whole _) cc0_scratch3 cc0_scratch4 cc0_scratch5 c a b d e g >>= fun _ => k0_part19 (F := F) xM (Memref.isWhole_whole _) oM (Memref.isWhole_whole _) bM (Memref.isWhole_whole _) tM (Memref.isWhole_whole _) lM (Memref.isWhole_whole _) cc0_scratch3 cc0_scratch4 cc0_scratch5 u v >>= fun _ => k0_part20 (F := F) xM (Memref.isWhole_whole _) oM (Memref.isWhole_whole _) bM (Memref.isWhole_whole _) tM (Memref.isWhole_whole _) lM (Memref.isWhole_whole _) cc0_scratch3 cc0_scratch4 cc0_scratch5 w x >>= fun _ =>
            Prog.op (.waitDma2 (recvS 6) tM (rowM 6) h₁ h₂) kk) Q) := by
  rw [k0_part18_eq_skeleton, k0_part19_eq_skeleton, k0_part20_eq_skeleton]; unfold k0_part18_skel k0_part19_skel k0_part20_skel
  simp only [Prog.lift, Prog.bind_op, Prog.bind_ret, Prog.pure_eq_ret]
  iintro ⟨#HR, H, Hw⟩ Hk
  iapply (wp_copy_row m K c _ 6 (dev14_eq c)) $$ [H]
  · isplitr; · iexact HR
    iexact H
  iintro H
  ihave H := (wait_start m c) $$ [H Hw]
  · isplitl [H]; · iexact H
    iexact Hw
  iapply (wp_wait_row m K c 0) $$ [H]
  · isplitr; · iexact HR
    iexact H
  iintro H
  iapply (wp_wait_row m K c 1) $$ [H]
  · isplitr; · iexact HR
    iexact H
  iintro H
  iapply (wp_wait_row m K c 2) $$ [H]
  · isplitr; · iexact HR
    iexact H
  iintro H
  iapply (wp_wait_row m K c 3) $$ [H]
  · isplitr; · iexact HR
    iexact H
  iintro H
  iapply (wp_wait_row m K c 4) $$ [H]
  · isplitr; · iexact HR
    iexact H
  iintro H
  iapply (wp_wait_row m K c 5) $$ [H]
  · isplitr; · iexact HR
    iexact H
  iintro H
  iapply (wp_wait_row m K c 6) $$ [H]
  · isplitr; · iexact HR
    iexact H
  iintro H
  iapply Hk $$ [H]; iexact H

end Cert.Scan

end
-- ==== Proof.Adding.lean ====
/-
# The earlier devices' totals are added

The landing buffer read, a loop goes once more over the sixteen blocks of the result and adds to each the column totals
of the devices before this one. Its invariant: the blocks done hold the result, the others the device's own scan.
-/
module

public import proofs.«01_k».proof.Proof.Exchange
public import proofs.«01_k».proof.Proof.Handshake

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The rows device `c` ends with: its own scan, the totals of the devices before it added. -/
def result (c : Dev nD) : S8192x1024.Idx → Elt F .f32 := fun i =>
  k0_pay1 (place c) (landing m c) (blockSums (blockOf (xAt m c)) ((i 0).val / 512)) (at2 ⟨(i 0).val % 512, Nat.mod_lt _ (by decide)⟩ (i 1))

/-- The result's buffer with the first `n` blocks added to. -/
def AddTo (c : Dev nD) (n : ℕ) : sProp 𝕄 :=
  iprop(∃ f : S8192x1024.Idx → Elt F .f32, ⌜∀ i, f i = if (i 0).val / 512 < n then result m c i else scanned (xAt m c) i⌝
    ∗ oM.view.loc (c : Thread nD τ) ↦{fullShare} f)

/-- A row lies in one of the sixteen blocks. -/
theorem row_lt (i : S8192x1024.Idx) : (i 0).val / 512 < 16 := by
  have : (i 0).val < 8192 := (i 0).isLt
  omega

/-- All blocks scanned, the loop can start. -/
theorem add_start (c : Dev nD) : OutTo m c 16 ⊢ AddTo m c 0 := by
  unfold OutTo AddTo
  iintro ⟨%f, %hf, H⟩
  iexists f
  isplitr
  · ipureintro
    intro i
    rw [if_neg (Nat.not_lt_zero _)]
    exact hf i (row_lt i)
  iexact H

/-- The loop done, the buffer holds the result. -/
theorem add_end (c : Dev nD) : AddTo m c 16 ⊢ oM.view.loc (c : Thread nD τ) ↦{fullShare} (result m c) := by
  unfold AddTo
  iintro ⟨%f, %hf, H⟩
  rw [show f = result m c from funext fun i => (hf i).trans (if_pos (row_lt i))]
  iexact H

/-- What the loop reads of block `b` before adding to it: the block's running sums. -/
theorem read_block (c : Dev nD) (b : Fin 16) (f : S8192x1024.Idx → Elt F .f32)
    (hf : ∀ i, f i = if (i 0).val / 512 < b.val then result m c i else scanned (xAt m c) i) :
    oM.view.readAt (Elt F) (rBlk b).toLoadRect f = blockSums (blockOf (xAt m c)) b.val := by
  have hb := b.isLt
  have key : ∀ (p : Fin 512) (q : Fin 1024), f (at2 (rowOf b.val p.val) q) = blockSums (blockOf (xAt m c)) b.val (at2 p q) := by
    intro p q
    have hp := p.isLt
    have h0 : ((at2 (rowOf b.val p.val) q : S8192x1024.Idx) 0).val = 512 * b.val + p.val := by
      show (512 * b.val + p.val) % 8192 = _
      omega
    have hd : ((at2 (rowOf b.val p.val) q : S8192x1024.Idx) 0).val / 512 = b.val := by rw [h0]; omega
    have hm : ((at2 (rowOf b.val p.val) q : S8192x1024.Idx) 0).val % 512 = p.val := by rw [h0]; omega
    rw [hf, hd, if_neg (Nat.lt_irrefl _)]
    unfold scanned
    rw [hd]
    refine congrArg _ (funext fun a => ?_)
    match a with
    | ⟨0, _⟩ => exact Fin.ext hm
    | ⟨1, _⟩ => rfl
  funext j
  rw [View.readAt_rect]
  have he : ((oM.view.slice (rBlk b)).emb j : S8192x1024.Idx) = at2 (rowOf b.val (j 0).val) (j 1) := blk_emb b j
  refine (congrArg f he).trans ((key (j 0) (j 1)).trans (congrArg _ (funext fun a => ?_)))
  match a with
  | ⟨0, _⟩ => rfl
  | ⟨1, _⟩ => rfl

/-- One trip: block `b` is read, added to and stored. -/
theorem wp_trip_at (c : Dev nD) (b : Fin 16) {o : Fin 2 → ℕ} (ho : o = ![512 * b.val, 0])
    {h : ∀ a, o a + S512x1024.size a ≤ S8192x1024.size a}
    {hl hl' : oM.view.LoadsAt (Rect.unit (s := S8192x1024) o S512x1024.size h).toLoadRect}
    {hx : (oM.access (Rect.unit (s := S8192x1024) o S512x1024.size h)).Stores Finset.univ}
    {hm : (Finset.univ : Finset (Rect.unit (s := S8192x1024) o S512x1024.size h).shape.Idx) = Finset.univ
      ∨ ∀ a, (Rect.unit (s := S8192x1024) o S512x1024.size h).stride a = 1} :
    AddTo m c b.val ⊢ wp frame (wpE (defs₀ (F := F)) 𝒱₀ (c : Thread nD τ) none) Set.univ (.op (.load oM (Rect.unit (s := S8192x1024) o S512x1024.size h).toLoadRect hl) fun v =>
        .op (.load oM (Rect.unit (s := S8192x1024) o S512x1024.size h).toLoadRect hl') fun _ =>
        .op (.store oM (Rect.unit (s := S8192x1024) o S512x1024.size h) (k0_pay1 (place c) (landing m c) v) Finset.univ hx hm) fun _ =>
        .ret PUnit.unit) (fun _ => AddTo m c (b.val + 1)) := by
  subst ho
  unfold AddTo
  iintro ⟨%f, %hf, Ho⟩
  iapply (wp_load 𝒱₀ (c : Thread nD τ) none Set.univ (m := oM) (Finset.subset_univ _)) $$ Ho
  iintro Ho
  rw [show oM.view.readAt (Elt F) (Rect.unit (s := S8192x1024) ![512 * b.val, 0] S512x1024.size h).toLoadRect f = _ from read_block m c b f hf]
  iapply (wp_load 𝒱₀ (c : Thread nD τ) none Set.univ (m := oM) (Finset.subset_univ _)) $$ Ho
  iintro Ho
  iapply (wp_store 𝒱₀ (c : Thread nD τ) none Set.univ (m := oM) (r := rBlk b) (Mk := Finset.univ) (Finset.subset_univ _)) $$ Ho
  iintro Ho
  sl_step
  iexists _
  isplitr
  rotate_left
  · iexact Ho
  · ipureintro
    intro i
    refine (write_blk b f _ i).trans ?_
    by_cases h : (i 0).val / 512 = b.val
    · rw [if_pos h, if_pos (by omega)]
      unfold result
      rw [h]
    · rw [if_neg h, hf]
      by_cases h' : (i 0).val / 512 < b.val
      · rw [if_pos h', if_pos (by omega)]
      · rw [if_neg h', if_neg (by omega)]

/-- The loop goes round sixteen times. -/
theorem trips_eq : k0_t1_loop.trips = 16 := by decide +kernel

/-- The loop: every block of the result added to. -/
theorem wp_add (c : Dev nD) {α : Type} {Q : α → sProp 𝕄} {kk : PUnit → Prog (TpuEff nD τ sig (Elt F) Λ₀ .tc) α} :
    OutTo m c 16
      ⊢ iprop(((oM.view.loc (c : Thread nD τ) ↦{fullShare} (result m c)) -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for k0_t1_loop k0_t1_ok ⟨⟩ (k0_t1_body xM (Memref.isWhole_whole _) oM (Memref.isWhole_whole _) bM (Memref.isWhole_whole _) tM (Memref.isWhole_whole _) lM (Memref.isWhole_whole _) cc0_scratch3 cc0_scratch4 cc0_scratch5 (place c) (landing m c)) >>= kk) Q) := by
  have hbody : ∀ k (acc : PUnit), AddTo m c k.val ⊢ wp frame (wpE (defs₀ (F := F)) 𝒱₀ (c : Thread nD τ) none) Set.univ (k0_t1_body xM (Memref.isWhole_whole _) oM (Memref.isWhole_whole _) bM (Memref.isWhole_whole _) tM (Memref.isWhole_whole _) lM (Memref.isWhole_whole _) cc0_scratch3 cc0_scratch4 cc0_scratch5 (place c) (landing m c) k acc) (fun _ => AddTo m c (k.val + 1)) := by
    intro k acc
    have hk : k.val < 16 := trips_eq ▸ k.isLt
    unfold k0_t1_body
    simp only [Prog.lift, Prog.bind_op, Prog.bind_ret, Prog.pure_eq_ret]
    exact wp_trip_at m c ⟨k.val, hk⟩ (k0_off1_eq k)
  iintro Ho Hk
  ihave Ha := (add_start m c) $$ Ho
  iapply (Scf.wp_for_bind frame (wpE (defs₀ (F := F)) 𝒱₀ (c : Thread nD τ) none) Set.univ k0_t1_loop.lb k0_t1_loop.ub k0_t1_loop.st k0_t1_ok ⟨⟩
    (k0_t1_body xM (Memref.isWhole_whole _) oM (Memref.isWhole_whole _) bM (Memref.isWhole_whole _) tM (Memref.isWhole_whole _) lM (Memref.isWhole_whole _) cc0_scratch3 cc0_scratch4 cc0_scratch5 (place c) (landing m c)) (fun n _ => AddTo m c n) hbody) $$ Ha
  iintro %acc Ha
  iapply Hk
  iapply (add_end m c)
  rw [show Scf.trips k0_t1_loop.lb k0_t1_loop.ub k0_t1_loop.st = 16 from trips_eq]
  iexact Ha

end Cert.Scan

end
-- ==== Proof.Body.lean ====
/-
# The body, from start to end

A device starts with its tokens and positions of the exchange, its two load semaphores at zero, its rows of the
argument, its scratch buffers at any contents, and what it owes. The parts run one after another; at the end the staging
buffer of the result holds the device's result, the argument's rows are as they were, and every semaphore is at zero.
-/
module

public import proofs.«01_k».proof.Proof.Handshake
public import proofs.«01_k».proof.Proof.Scanning
public import proofs.«01_k».proof.Proof.Copying
public import proofs.«01_k».proof.Proof.Adding

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-! ## What the body starts from and ends with -/

/-- The tokens of the units and amounts a device pays. -/
def payToks (c : Dev nD) : sProp 𝕄 :=
  iprop((bigSep Finset.univ fun k => dutyTok ER (barCell (tgt c k)) 0 (Fin.rev k))
    ∗ (bigSep Finset.univ fun k => dutyTok ER (sendCell k c) 0 (0 : Fin 7))
    ∗ bigSep Finset.univ fun k => dutyTok ER (recvCell k (tgt c k)) 0 (0 : Fin 7))

/-- A device's positions at its own cells. -/
def atCells (c : Dev nD) : sProp 𝕄 :=
  iprop(atPos ER (barCell c) 0 ∅ 0 ∗ (bigSep Finset.univ fun k => atPos ER (sendCell k c) 0 ∅ 0)
    ∗ bigSep Finset.univ fun k => atPos ER (recvCell k c) 0 ∅ 0)

/-- The two load semaphores at zero. -/
def loads0 (c : Dev nD) : sProp 𝕄 :=
  iprop(semVal ((c : Thread nD τ), .dma (loadS 0)) 0 ∗ semVal ((c : Thread nD τ), .dma (loadS 1)) 0)

/-- The credits a device is dealt at the launch: its handshake's units and its seven landing rows' amounts. -/
def dealt (c : Dev nD) : sProp 𝕄 :=
  iprop(cred (tallyAt (barCell c) () 7) ∗ bigSep Finset.univ fun k => cred (tallyAt (recvCell k c) () N))

/-- The device's rows of the argument. -/
def argPts (c : Dev nD) : sProp 𝕄 := xM.view.loc (c : Thread nD τ) ↦{fullShare} (xAt m c)

/-- The three scratch buffers, at any contents. -/
def scratches (c : Dev nD) : sProp 𝕄 :=
  iprop((∃ f, bM.view.loc (c : Thread nD τ) ↦{fullShare} f) ∗ (∃ f, tM.view.loc (c : Thread nD τ) ↦{fullShare} f)
    ∗ ∃ f, lM.view.loc (c : Thread nD τ) ↦{fullShare} f)

/-- The exchange's semaphores at zero. -/
def cells0 (c : Dev nD) : sProp 𝕄 :=
  iprop(semVal (barCell c) 0 ∗ (bigSep Finset.univ fun k => semVal (sendCell k c) 0) ∗ bigSep Finset.univ fun k => semVal (recvCell k c) 0)

/-! ## The two halves of the block buffer, the two shares of the argument -/

/-- Place `j` of half `h` is row `j 0`, column `j 1` of layer `h` of the block buffer. -/
theorem half_emb (h : Fin 2) (j : S512x1024.Idx) : ((halfM h).view.emb j : S2x512x1024.Idx) = at3 h (j 0) (j 1) := by
  have hj : Shape.reshapeEquiv (s := S1x512x1024) (s' := S512x1024) (by decide) j = at3 (0 : Fin 1) (j 0) (j 1) := by
    refine (Shape.reshapeEquiv_cons_one (d := ![512, 1024]) _ _).trans (funext fun i => ?_)
    match i with
    | ⟨0, _⟩ => rfl
    | ⟨1, _⟩ => rfl
    | ⟨2, _⟩ => rfl
  refine Eq.trans (b := (bM.view.slice (rHalf h)).emb (Shape.reshapeEquiv (s := S1x512x1024) (s' := S512x1024) (by decide) j)) rfl ?_
  rw [hj]
  funext a
  refine Fin.ext ?_
  match a with
  | ⟨0, _⟩ => show h.val + 1 * 0 = h.val; omega
  | ⟨1, _⟩ => show 0 + 1 * (j 0).val = (j 0).val; omega
  | ⟨2, _⟩ => show 0 + 1 * (j 1).val = (j 1).val; omega

/-- Half `h` is layer `h` of the block buffer. -/
theorem half_mem (h : Fin 2) (i : S2x512x1024.Idx) : i ∈ (halfM h).view.set ↔ i 0 = h := by
  constructor
  · intro hi
    obtain ⟨j, -, rfl⟩ := Finset.mem_map.mp hi
    rw [half_emb]; rfl
  · intro hi
    have : i = (halfM h).view.emb (at2 (i 1) (i 2)) := by
      rw [half_emb]
      funext a
      match a with
      | ⟨0, _⟩ => exact hi
      | ⟨1, _⟩ => rfl
      | ⟨2, _⟩ => rfl
    rw [this]; exact View.emb_mem_set _ _

/-- The two halves have no place in common. -/
theorem halves_disjoint : Disjoint ((halfM 0).view.set : Finset S2x512x1024.Idx) ((halfM 1).view.set : Finset S2x512x1024.Idx) :=
  Finset.disjoint_left.mpr fun i h0 h1 => absurd (((half_mem 0 i).mp h0).symm.trans ((half_mem 1 i).mp h1)) (show ¬ (0 : Fin 2) = 1 by decide)

/-- The two halves are the whole block buffer. -/
theorem halves_union : ((halfM 0).view.set : Finset S2x512x1024.Idx) ∪ ((halfM 1).view.set : Finset S2x512x1024.Idx) = Finset.univ := by
  rw [Finset.eq_univ_iff_forall]; intro i
  rw [Finset.mem_union]
  have hi : (i 0).val < 2 := (i 0).isLt
  by_cases h : (i 0).val = 0
  · exact .inl ((half_mem 0 i).mpr (Fin.ext h))
  · exact .inr ((half_mem 1 i).mpr (Fin.ext (by show (i 0).val = 1; omega)))

omit [FloatOps F] in
/-- Who holds the block buffer holds its two halves. -/
theorem halves_split (c : Dev nD) (f : S2x512x1024.Idx → Elt F .f32) :
    (bM.view.loc (c : Thread nD τ) ↦{fullShare} f : sProp 𝕄)
      ⊢ iprop(((halfM 0).view.loc (c : Thread nD τ) ↦[(halfM 0).view.set]{fullShare} f) ∗ ((halfM 1).view.loc (c : Thread nD τ) ↦[(halfM 1).view.set]{fullShare} f)) := by
  have h : (bM.view.loc (c : Thread nD τ) ↦[((halfM 0).view.set : Finset S2x512x1024.Idx) ∪ ((halfM 1).view.set : Finset S2x512x1024.Idx)]{fullShare} f : sProp 𝕄) ⊣⊢ _ :=
    pointsTo_union halves_disjoint
  have h1 := h.1
  rw [halves_union] at h1
  exact h1

omit [FloatOps F] in
/-- Who holds the two halves, at whatever contents, holds the block buffer. -/
theorem halves_join (c : Dev nD) (f g : S2x512x1024.Idx → Elt F .f32) :
    iprop(((halfM 0).view.loc (c : Thread nD τ) ↦[(halfM 0).view.set]{fullShare} f) ∗ ((halfM 1).view.loc (c : Thread nD τ) ↦[(halfM 1).view.set]{fullShare} g))
      ⊢ (iprop(∃ f, bM.view.loc (c : Thread nD τ) ↦{fullShare} f) : sProp 𝕄) := by
  iintro H
  ihave H := (pointsTo_join (ℓ := bM.view.loc (c : Thread nD τ)) (q := fullShare) (f := f) (g := g) halves_disjoint) $$ H
  iexists _
  rw [halves_union]
  iexact H

/-- The argument is held in two shares, one for each half's copies. -/
theorem arg_shares (c : Dev nD) :
    argPts m c = iprop((xM.view.loc (c : Thread nD τ) ↦{xshr 0} (xAt m c)) ∗ xM.view.loc (c : Thread nD τ) ↦{xshr 1} (xAt m c)) := by
  have h : (xM.view.loc (c : Thread nD τ) ↦{fullShare} (xAt m c) : sProp 𝕄) ⊣⊢ _ := pointsTo_share (PosShare.mem_left_op_right fullShare)
  exact BI.equiv_iff.mp ⟨h.1, h.2⟩

/-- Both halves idle at the start. -/
theorem idle_start (c : Dev nD) : iprop((∃ f, bM.view.loc (c : Thread nD τ) ↦{fullShare} f) ∗ loads0 c ∗ argPts m c) ⊢ iprop(Idle m c 0 ∗ Idle m c 1) := by
  unfold Idle loads0
  rw [arg_shares]
  iintro ⟨⟨%f, H⟩, ⟨Hs0, Hs1⟩, Hx0, Hx1⟩
  ihave H := (halves_split c f) $$ H
  icases H with ⟨H0, H1⟩
  isplitl [H0 Hs0 Hx0]
  · isplitl [H0]; · iexists f; iexact H0
    isplitl [Hs0] <;> iassumption
  · isplitl [H1]; · iexists f; iexact H1
    isplitl [Hs1] <;> iassumption

/-- Both halves idle at the end. -/
theorem idle_end (c : Dev nD) : iprop(Idle m c 0 ∗ Idle m c 1) ⊢ iprop((∃ f, bM.view.loc (c : Thread nD τ) ↦{fullShare} f) ∗ loads0 c ∗ argPts m c) := by
  unfold Idle loads0
  rw [arg_shares]
  iintro ⟨⟨⟨%f, H0⟩, Hs0, Hx0⟩, ⟨%g, H1⟩, Hs1, Hx1⟩
  isplitl [H0 H1]
  · iapply (halves_join c f g)
    isplitl [H0] <;> iassumption
  isplitl [Hs0 Hs1]
  · isplitl [Hs0] <;> iassumption
  isplitl [Hx0] <;> iassumption

/-- The landing buffer's rows, to be handed over with the units. -/
theorem sig_start (c : Dev nD) :
    iprop((∃ W, owes (c : Thread nD τ) (O₀ c) W) ∗ (bigSep Finset.univ fun k => dutyTok ER (barCell (tgt c k)) 0 (Fin.rev k))
        ∗ ∃ f, lM.view.loc (c : Thread nD τ) ↦{fullShare} f) ⊢ SigSt (F := F) c 0 := by
  unfold SigSt
  rw [rowsFrom_zero, bigSep_sep' Finset.univ (fun k => dutyTok ER (barCell (tgt c k)) 0 (Fin.rev k)) _]
  iintro ⟨HO, Ht, ⟨%f, Hl⟩⟩
  isplitl [HO]; · iexact HO
  isplitl [Ht]; · iexact Ht
  iapply ((Entails.of_eq (rows_eq c f)).trans ((Entails.of_eq (bigSep_univ_equiv Fin.revPerm (fun k => rowPts (F := F) c k f))).trans
    (bigSep_mono fun k _ => show rowPts (F := F) c (Fin.rev k) f ⊢ iprop(∃ f, rowPts (F := F) c (Fin.rev k) f) from exists_intro f))) $$ Hl

/-- Three zero offsets are zero everywhere. -/
theorem offs_zero3 : (![0, 0, 0] : Fin 3 → Nat) = fun _ => 0 := funext fun a => by fin_cases a <;> rfl

/-- Reading the whole landing buffer gives its contents. -/
theorem read_landing (f : (cc0_scratch2 : Ref sig .tc).ty.Contents (Elt F)) :
    lM.view.readAt (Elt F) (Rect.unit (s := S7x1x1024) ![0, 0, 0] S7x1x1024.size inb_S7x1x1024_S7x1x1024_0_0_0).toLoadRect f = f :=
  Memref.readAt_unit_zero (Elt F) cc0_scratch2 offs_zero3 _ f

/-! ## The body -/

set_option maxHeartbeats 1600000 in
/-- The body runs to its end, the staging buffer holding the device's result. -/
theorem sound_body (c : Dev nD) (Kt : PUnit → sProp 𝕄) :
    iprop((records m K ∗ payToks c ∗ atCells c ∗ loads0 c ∗ dealt c ∗ levAts L lv ∗ argPts m c ∗ scratches c
          ∗ (∃ W, owes (c : Thread nD τ) (O₀ c) W) ∗ ∃ f, oM.view.loc (c : Thread nD τ) ↦{fullShare} f)
        ∗ (((oM.view.loc (c : Thread nD τ) ↦{fullShare} (result m c)) -∗ (∃ W, owes (c : Thread nD τ) 0 W) -∗ argPts m c -∗ scratches c -∗ loads0 c -∗ cells0 c -∗ Kt ⟨⟩)))
      ⊢ wp frame (wpE (defs₀ (F := F)) 𝒱₀ (c : Thread nD τ) none) Set.univ (cc0_body xM (Memref.isWhole_whole _) oM (Memref.isWhole_whole _) bM (Memref.isWhole_whole _) tM (Memref.isWhole_whole _) lM (Memref.isWhole_whole _) cc0_scratch3 cc0_scratch4 cc0_scratch5) Kt := by
  simp only [cc0_body_eq_skeleton]; unfold cc0_body_skel
  unfold payToks atCells dealt scratches
  iintro ⟨⟨#HR, ⟨HtB, HtS, HtV⟩, ⟨HaB, HaS, HaV⟩, Hl0, ⟨HcB, HcV⟩, #Hlev, Hx, ⟨Hb, Ht, Hl⟩, HO, ⟨%fo, Hout⟩⟩, Hk⟩
  ihave HS := (sig_start (F := F) c) $$ [HO HtB Hl]
  · isplitl [HO]; · iexact HO
    isplitl [HtB]; · iexact HtB
    iexact Hl
  iapply (wp_part1 m K c) $$ [HS]
  · isplitr; · iexact HR
    iexact HS
  iintro HS %a1 %b1 %d1
  iapply (wp_part2 m K c) $$ [HS]
  · isplitr; · iexact HR
    iexact HS
  iintro HS %a2 %b2 %d2
  iapply (wp_part3 m K c) $$ [HS HcB HaB]
  · isplitr; · iexact HR
    isplitr; · iexact Hlev
    isplitl [HS]; · iexact HS
    isplitl [HcB] <;> iassumption
  iintro HO HzB Hrows
  ihave HI := (idle_start m c) $$ [Hb Hl0 Hx]
  · isplitl [Hb]; · iexact Hb
    isplitl [Hl0] <;> iassumption
  icases HI with ⟨H0, H1⟩
  iapply (wp_part4 m c) $$ [H0 H1 Hout HO]
  · isplitl [H0]; · iexact H0
    isplitl [H1]; · iexact H1
    isplitl [Hout]
    · unfold OutTo
      iexists fo
      isplitr; · ipureintro; exact fun i hi => absurd hi (Nat.not_lt_zero _)
      iexact Hout
    isplitl [HO]; · iexact HO
    iexact Hlev
  iintro H
  iapply (wp_part56 m c) $$ H; iintro H
  iapply (wp_part78 m c) $$ H; iintro H
  iapply (wp_part9 m c) $$ H; iintro H
  iapply (wp_part10 m c) $$ H; iintro H
  iapply (wp_part11 m c) $$ H; iintro H
  iapply (wp_part14 m K c) $$ [H HtS HtV Hrows Ht]
  · isplitr; · iexact HR
    isplitl [H]; · iexact H
    isplitl [HtS HtV Hrows]
    · unfold CopyRes
      isplitl [HtS]; · iexact HtS
      isplitl [HtV] <;> iassumption
    iexact Ht
  iintro H0 H1 Hout HC %a3 %b3 %d3
  iapply (wp_part15 m K c) $$ [HC]
  · isplitr; · iexact HR
    iexact HC
  iintro HC %a4 %b4
  iapply (wp_part16 m K c) $$ [HC]
  · isplitr; · iexact HR
    iexact HC
  iintro HC %a5 %b5
  iapply (wp_part17 m K c) $$ [HC]
  · isplitr; · iexact HR
    iexact HC
  iintro HC %a6 %b6 %d6 %e6
  iapply (wp_part18 m K c) $$ [HC HaS HcV HaV]
  · isplitr; · iexact HR
    isplitl [HC]; · iexact HC
    unfold WaitRes
    isplitl [HaS]; · iexact HaS
    isplitl [HcV] <;> iassumption
  iintro HW
  ihave HW := (wait_end m c) $$ HW
  icases HW with ⟨HO, Ht, Hl, HzS, HzV⟩
  iapply (wp_load 𝒱₀ (c : Thread nD τ) none Set.univ (m := lM) (Finset.subset_univ _)) $$ Hl; iintro Hl
  rw [read_landing]
  iapply (wp_add m c) $$ Hout
  iintro Hout
  sl_step
  ihave HI := (idle_end m c) $$ [H0 H1]
  · isplitl [H0] <;> iassumption
  icases HI with ⟨Hb, Hl0, Hx⟩
  iapply Hk $$ Hout HO Hx [Hb Ht Hl] Hl0 [HzB HzS HzV]
  · isplitl [Hb]; · iexact Hb
    isplitl [Ht]; · iexists _; iexact Ht
    iexists _; iexact Hl
  · unfold cells0
    isplitl [HzB]; · iexact HzB
    isplitl [HzS] <;> iassumption

end Cert.Scan

end
-- ==== Proof.Obligation.lean ====
/-
# What the launch is told of the body

The kernel has one window — the result, staged and written back whole — and one point. The record of the window's
contents, of what the device holds before and after the point, and of what it owes, and the proof that the body meets it.
-/
module

public import proofs.«01_k».proof.Proof.Body

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The record -/

/-- What a device holds of the exchange at the start, whatever the names of the cells' invariants. -/
def held (c : Dev nD) : sProp 𝕄 := iprop(∃ K, records m K ∗ payToks c ∗ atCells c ∗ loads0 c)

/-- What the body starts from, the scratch buffers apart. -/
def start (c : Dev nD) : sProp 𝕄 := iprop(held m c ∗ dealt c ∗ levAts L lv ∗ argPts m c)

/-- Before the point. -/
def Φ₀ (c : Dev nD) : sProp 𝕄 := iprop(start m c ∗ scratches c)
/-- After it: the argument as it was, every semaphore at zero. -/
def Φ₁ (c : Dev nD) : sProp 𝕄 := iprop(argPts m c ∗ scratches c ∗ loads0 c ∗ cells0 c)

/-- The launch's record of device `c`: the result's window, the assertions before and after the one point, and what is owed there. -/
def dats (_ : Fin 1) (c : Dev nD) : Dat τ (Elt F) Unit ℕ UU ℕ cfg0 c where
  A w := m ((cfg0.win w).arr.view.loc (c : Thread nD τ))
  after w _ := match w with
    | ⟨0, _⟩ => result m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The launch has one point. -/
theorem cfg0_N : cfg0.N = 1 := by decide
/-- The one point. -/
def t₀ : Fin cfg0.N := ⟨0, by rw [cfg0_N]; decide⟩
/-- Every point is the one point. -/
theorem fin_N (t : Fin cfg0.N) : t = t₀ := by
  obtain ⟨t, ht⟩ := t; have := cfg0_N; exact Fin.ext (by simp only [t₀]; omega)

omit [FloatOps F] in
/-- What holds for every window holds for the one window. -/
theorem bigSep_W (Φ : Fin cfg0.W → sProp 𝕄) : bigSep Finset.univ Φ = iprop(Φ (0 : Fin 1)) := bigSep_W0 Φ

omit [FloatOps F] in
/-- To own a whole buffer is to hold it at its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The obligation -/

set_option maxRecDepth 65536 in
/-- What the launch gives the body. -/
def bodyPre (c : Dev nD) : sProp 𝕄 :=
  iprop(Φ₀ m c ∗ (dats m 0 c).owesAt () t₀.castSucc ∗ (∃ d, stg c cc0_stg0_0 ((dats m 0 c).before (0 : Fin 1) t₀ d)))

/-- What the body gives back. -/
def bodyPost (c : Dev nD) : sProp 𝕄 :=
  iprop(Φ₁ m c ∗ (dats m 0 c).owesAt () t₀.succ ∗ stg c cc0_stg0_0 (result m c))

set_option maxRecDepth 65536 in
/-- The body meets the record. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ (cc0_body xM (Memref.isWhole_whole _) oM (Memref.isWhole_whole _) bM (Memref.isWhole_whole _) tM (Memref.isWhole_whole _) lM (Memref.isWhole_whole _) cc0_scratch3 cc0_scratch4 cc0_scratch5) (fun _ => bodyPost m c)
  unfold bodyPre Φ₀ start held Dat.owesAt Pipeline.owesWithin
  iintro ⟨⟨⟨⟨%K, HR, Hp, Ha, Hl⟩, Hd, Hlev, Hx⟩, Hs⟩, ⟨%W, %hW, HO⟩, ⟨%d, %g, %hg, Hout⟩⟩
  rw [show (dats m 0 c).owed t₀.castSucc = O₀ c from rfl]
  iapply (sound_body m K c fun _ => bodyPost m c)
  isplitl
  · isplitl [HR]; · iexact HR
    isplitl [Hp]; · iexact Hp
    isplitl [Ha]; · iexact Ha
    isplitl [Hl]; · iexact Hl
    isplitl [Hd]; · iexact Hd
    isplitl [Hlev]; · iexact Hlev
    isplitl [Hx]; · iexact Hx
    isplitl [Hs]; · iexact Hs
    isplitl [HO]; · iexists W; iexact HO
    iexists g; iexact Hout
  iintro Hout ⟨%W', HO⟩ Hx Hs Hl Hz
  unfold bodyPost Φ₁ Dat.owesAt Pipeline.owesWithin
  rw [show (dats m 0 c).owed t₀.succ = 0 from rfl]
  isplitl [Hx Hs Hl Hz]
  · isplitl [Hx]; · iexact Hx
    isplitl [Hs]; · iexact Hs
    isplitl [Hl] <;> iassumption
  isplitl [HO]
  · iexists W'
    isplitr; · ipureintro; exact fun _ _ => Or.inl trivial
    iexact HO
  iexists _; isplitr; · (ipureintro; rfl)
  iexact Hout

end Cert.Scan

end
-- ==== Proof.Tokens.lean ====
/-
# The exchange's tokens and credits at the launch

The launch mints, for every device, the tokens of its own cells' units and amounts; each goes to the device that pays
it. It deals every device the credits of what the others owe its cells. And it opens every cell's invariant.
-/
module

public import proofs.«01_k».proof.Proof.Obligation
public import Idealize.ShloMosaic.Lib.Pipeline.Launch
public import Idealize.ShloMosaic.Lib.Pipeline.Kit
public import Idealize.ShloMosaic.Lib.Tactic

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and their tokens -/

/-- The kernel's own semaphores: the two loads', the seven sends', the seven receives'. -/
abbrev OI : Type := Fin 2 ⊕ (Fin 7 ⊕ Fin 7)
/-- The semaphore that a name stands for. -/
abbrev osem : OI → SemLoc sig
  | .inl h => .dma (loadS h) | .inr (.inl k) => .dma (sendS k) | .inr (.inr k) => .dma (recvS k)

/-- These are the semaphores the kernel allocates, each once. -/
theorem ownSemFacts : Pipeline.OwnSemFacts cfg0.spec osem := by decide

/-- The semaphore of a cell. -/
abbrev csem : CI → SemLoc sig
  | .inl _ => .reg barS | .inr (.inl k) => .dma (sendS k) | .inr (.inr k) => .dma (recvS k)
/-- Different cells of a device are different semaphores. -/
theorem csem_injective : Function.Injective csem := by decide
/-- A cell is a device's core and a semaphore. -/
theorem kcell_eq (ck : Dev nD × CI) : kcell ck = ((ck.1 : Thread nD τ), csem ck.2) := by
  obtain ⟨c, _ | _ | _⟩ := ck <;> rfl
/-- Different names stand for different cells. -/
theorem kcell_injective : Function.Injective kcell := by
  intro a b h
  rw [kcell_eq, kcell_eq] at h
  exact Prod.ext (congrArg (fun g : GSem nD τ sig => g.1.1) h) (csem_injective (congrArg Prod.snd h))
/-- Every cell of the exchange. -/
def allCells : Finset (GSem nD τ sig) := Finset.univ.map ⟨kcell, kcell_injective⟩

/-- The duties of a device's own cells: the handshake's seven units, each send's amount, each receive's. -/
abbrev TI : Type := Fin 7 ⊕ (Fin 7 ⊕ Fin 7)
/-- The cell a duty belongs to, and its number there. -/
abbrev tcell : TI → CI × Fin 7
  | .inl k => (.inl (), k) | .inr (.inl k) => (.inr (.inl k), 0) | .inr (.inr k) => (.inr (.inr k), 0)
/-- Different duties differ in their cell or number. -/
theorem tcell_injective : Function.Injective tcell := by decide
/-- The token of a device's duty. -/
abbrev tokOf (cj : Dev nD × TI) : GSem nD τ sig × ℕ × Fin 7 := (kcell (cj.1, (tcell cj.2).1), 0, (tcell cj.2).2)
/-- Different duties have different tokens. -/
theorem tokOf_injective : Function.Injective tokOf := by
  intro a b h
  have h1 := kcell_injective (congrArg Prod.fst h)
  have h2 : (tcell a.2).2 = (tcell b.2).2 := congrArg (fun x : GSem nD τ sig × ℕ × Fin 7 => x.2.2) h
  have h3 : (tcell a.2).1 = (tcell b.2).1 := (Prod.mk.inj h1).2
  exact Prod.ext (Prod.mk.inj h1).1 (tcell_injective (Prod.ext h3 h2))
/-- Every token of the exchange. -/
def allToks : Finset (GSem nD τ sig × ℕ × Fin 7) := Finset.univ.map ⟨tokOf, tokOf_injective⟩

/-- The element the launch starts from: the launch library's rounds, the exchange's, the counters' unit. -/
def u₀ : UU :=
  (initOf (Pipeline.cells cfgs cellOf_inj) (Pipeline.launchToks cfgs cellOf_inj), (initOf allCells allToks, 1))

/-- The tokens of device `c`'s own cells. -/
def toks (c : Dev nD) : sProp 𝕄 :=
  iprop((bigSep Finset.univ fun k : Fin 7 => dutyTok ER (barCell c) 0 k)
    ∗ (bigSep Finset.univ fun k => dutyTok ER (sendCell k c) 0 (0 : Fin 7))
    ∗ bigSep Finset.univ fun k => dutyTok ER (recvCell k c) 0 (0 : Fin 7))

/-- What the starting element deals device `c`. -/
def G (c : Dev nD) : sProp 𝕄 :=
  iprop((bigSep Finset.univ fun k : CI => roundState ER (sched (F := F) m) (kcell (c, k)) 0)
    ∗ (bigSep Finset.univ fun k : CI => atPos ER (kcell (c, k)) 0 ∅ 0) ∗ (bigSep Finset.univ fun k : CI => reached ER (kcell (c, k)) 0) ∗ toks c)

/-- The exchange's starting element deals every device its share. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The invariants -/

omit [FloatOps F] in
/-- The two load semaphores at zero, listed. -/
theorem loads_eq (c : Dev nD) : (bigSep Finset.univ fun h : Fin 2 => semVal ((c : Thread nD τ), .dma (loadS h)) 0 : sProp 𝕄) = loads0 c := by
  rw [bigSep_univ_eq_bigSepL [0, 1] (by decide) (by decide)]; rfl

omit [FloatOps F] in
/-- The kernel's own semaphores at zero: the loads', the sends', the receives'. -/
theorem ownSems0_eq (c : Dev nD) : (Pipeline.ownSems0 (Ix := Unit) (Name := ℕ) (U := UU) (Lvl := ℕ) (Val := Elt F) (τ := τ) osem c : sProp 𝕄)
    = iprop(loads0 c ∗ (bigSep Finset.univ fun k => semVal (sendCell k c) 0) ∗ bigSep Finset.univ fun k => semVal (recvCell k c) 0) := by
  unfold Pipeline.ownSems0
  rw [bigSep_univ_sum, bigSep_univ_sum, ← loads_eq]; rfl
omit [FloatOps F] in
/-- The one semaphore that outlives the kernel is the handshake's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- What is one per thing of which there is one. -/
theorem bigSep_unit (Φ : Unit → sProp 𝕄) : bigSep Finset.univ Φ = Φ () := by
  rw [bigSep_univ_eq_bigSepL [()] (by decide) (by decide)]; rfl

omit [FloatOps F] in
/-- What is one per cell of a device, cell by cell. -/
theorem bigSep_cells (Φ : CI → sProp 𝕄) :
    bigSep Finset.univ Φ = iprop(Φ (.inl ()) ∗ (bigSep Finset.univ fun k => Φ (.inr (.inl k))) ∗ bigSep Finset.univ fun k => Φ (.inr (.inr k))) := by
  rw [bigSep_univ_sum, bigSep_univ_sum, bigSep_unit]; rfl

/-- Every cell of a device opened: its counter at zero goes into its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched (F := F) m) κ (kcell (c, k))))
          ∗ (bigSep Finset.univ fun k : CI => reached ER (kcell (c, k)) 0) ∗ toks c ∗ atCells c ∗ loads0 c) := by
  unfold G
  rw [ownSems0_eq, unscopedSems0_eq]
  iintro ⟨⟨Hl, HS, HV⟩, HB, Hst, Hat, Hr, Htok⟩
  imod (show iprop((bigSep Finset.univ fun k : CI => semVal (kcell (c, k)) 0) ∗ bigSep Finset.univ fun k : CI => roundState ER (sched (F := F) m) (kcell (c, k)) 0)
      ⊢ (|={Set.univ}=> bigSep Finset.univ fun k => iprop(∃ κ : ℕ, cellInv ER (sched (F := F) m) κ (kcell (c, k))) : sProp 𝕄) from by
        rw [← bigSep_sep']
        exact (bigSep_mono fun k _ => (Rounds.body_intro ER (sched m) (kcell (c, k))).trans inv_alloc).trans (bigSep_fupd _ _)) $$ [HS HV HB Hst] with Hinv
  · isplitl [HS HV HB]
    · rw [bigSep_cells]
      isplitl [HB]; · iexact HB
      isplitl [HS] <;> iassumption
    iexact Hst
  imodintro
  isplitl [Hinv]; · iexact Hinv
  isplitl [Hr]; · iexact Hr
  isplitl [Htok]; · iexact Htok
  isplitl [Hat]
  · unfold atCells
    ihave H := (Entails.of_eq (bigSep_cells (F := F) fun k => atPos ER (kcell (c, k)) 0 ∅ 0)) $$ Hat
    iexact H
  iexact Hl

/-! ## Each token to the device that pays it -/

omit [FloatOps F] in
/-- Tokens one per device and row, dealt so that device `c` gets, for row `k`, the one of the device `k + 1` on. -/
theorem deal (T : Dev nD → Fin 7 → sProp 𝕄) :
    (bigSep Finset.univ fun c => bigSep Finset.univ fun k => T c k) = bigSep Finset.univ fun c => bigSep Finset.univ fun k => T (tgt c k) k := by
  rw [bigSep_univ_comm, bigSep_univ_comm (fun c k => T (tgt c k) k)]
  exact bigSep_congr fun k _ => bigSep_univ_equiv (hop k) fun c => T c k

omit [FloatOps F] in
/-- Every device's tokens, dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep']
  have hB : (bigSep Finset.univ fun c : Dev nD => bigSep Finset.univ fun k : Fin 7 => (dutyTok ER (barCell c) 0 k : sProp 𝕄))
      = bigSep Finset.univ fun c : Dev nD => bigSep Finset.univ fun k : Fin 7 => dutyTok ER (barCell (tgt c k)) 0 (Fin.rev k) := by
    rw [← deal fun c k => dutyTok ER (barCell c) 0 (Fin.rev k)]
    exact bigSep_congr fun c _ => bigSep_univ_equiv Fin.revPerm fun k => dutyTok ER (barCell c) 0 k
  rw [hB, deal fun c k => dutyTok ER (recvCell k c) 0 (0 : Fin 7)]

omit [FloatOps F] in
/-- A fact that may be used again and again serves at every index. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What every device has opened and holds, regrouped: one naming of all the invariants, known to every device. -/
theorem regroup :
    (bigSep Finset.univ fun c : Dev nD => iprop((bigSep Finset.univ fun k : CI => iprop(∃ κ : ℕ, cellInv ER (sched (F := F) m) κ (kcell (c, k))))
          ∗ (bigSep Finset.univ fun k : CI => reached ER (kcell (c, k)) 0) ∗ toks c ∗ atCells c ∗ loads0 c) : sProp 𝕄)
      ⊢ bigSep Finset.univ (held m) := by
  rw [bigSep_sep', bigSep_sep', bigSep_sep', ← bigSep_univ_prod (fun ck : Dev nD × CI => iprop(∃ κ : ℕ, cellInv ER (sched (F := F) m) κ (kcell ck))),
    ← bigSep_univ_prod (fun ck : Dev nD × CI => (reached ER (kcell ck) 0 : sProp 𝕄))]
  iintro ⟨HI, #HR, Htok, Hrest⟩
  ihave HK := (BI.bigSep_exists_pi Finset.univ (fun (ck : Dev nD × CI) (κ : ℕ) => (cellInv ER (sched (F := F) m) κ (kcell ck) : sProp 𝕄))) $$ HI
  icases HK with ⟨%K, #HI⟩
  ihave Htk := (toks_around (F := F)) $$ Htok
  iapply (bigSep_with_persistent (R := records m K) (Φ := fun c => iprop(payToks c ∗ atCells c ∗ loads0 c)) fun c _ =>
    show iprop(records m K ∗ payToks c ∗ atCells c ∗ loads0 c) ⊢ held m c from by
      unfold held; iintro H; iexists K; iexact H)
  isplitr
  · unfold records; isplitl; · iexact HI
    iexact HR
  · iapply (Entails.of_eq (bigSep_sep' Finset.univ (fun c => (payToks c : sProp 𝕄)) fun c => iprop(atCells c ∗ loads0 c)).symm)
    isplitl [Htk]; · iexact Htk
    iexact Hrest

/-- Every device's semaphores and share of the starting element make what the devices hold. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (held m) :=
  ((bigSep_mono fun c _ => core_alloc m c).trans (bigSep_fupd _ _)).trans (BI.fupd_mono (regroup m))

/-! ## The credits -/

omit [FloatOps F] in
/-- What a device owes, written as a sum over the rows. -/
theorem O₀_eq (d : Dev nD) : O₀ d = (∑ k : Fin 7, tallyAt (recvCell k (tgt d k)) () N) + ∑ k : Fin 7, tallyAt (barCell (tgt d k)) () 1 := by
  rw [Fin.sum_univ_seven, Fin.sum_univ_seven]
  show ((((((((0 + tallyAt (recvCell 6 (tgt d 6)) () N + tallyAt (recvCell 5 (tgt d 5)) () N + tallyAt (recvCell 4 (tgt d 4)) () N
    + tallyAt (recvCell 3 (tgt d 3)) () N + tallyAt (recvCell 2 (tgt d 2)) () N + tallyAt (recvCell 1 (tgt d 1)) () N + tallyAt (recvCell 0 (tgt d 0)) () N)
    + tallyAt (barCell (tgt d 6)) () 1) + tallyAt (barCell (tgt d 5)) () 1) + tallyAt (barCell (tgt d 4)) () 1) + tallyAt (barCell (tgt d 3)) () 1)
    + tallyAt (barCell (tgt d 2)) () 1) + tallyAt (barCell (tgt d 1)) () 1) + tallyAt (barCell (tgt d 0)) () 1) = _
  rw [zero_add]; ac_rfl

omit [FloatOps F] in
/-- How much of a sum over the rows is owed to one cell. -/
theorem sum_tallyAt (f : Fin 7 → GSem nD τ sig) (n : ℕ) (g : GSem nD τ sig) :
    (∑ k : Fin 7, (tallyAt (f k) () n : CellTallies nD τ sig Unit)) g () = ∑ k : Fin 7, if g = f k then n else 0 := by
  rw [Finset.sum_apply, Finsupp.finset_sum_apply]
  exact Finset.sum_congr rfl fun k _ => by rw [tallyAt_apply]; simp only [and_true]

omit [FloatOps F] in
/-- What device `d` owes `c`'s handshake cell: a unit for each row whose target is `c`. -/
theorem owed_bar (d c : Dev nD) : O₀ d (barCell c) () = ∑ k : Fin 7, if tgt d k = c then 1 else 0 := by
  rw [O₀_eq, Pi.add_apply, Finsupp.add_apply, sum_tallyAt, sum_tallyAt,
    Finset.sum_eq_zero (fun k _ => if_neg fun h => dma_ne_bar _ (congrArg Prod.snd h).symm), Nat.zero_add]
  refine Finset.sum_congr rfl fun k _ => if_congr ⟨fun h => ?_, fun h => by rw [h]⟩ rfl rfl
  exact (congrArg (fun g : GSem nD τ sig => g.1.1) h).symm

omit [FloatOps F] in
/-- What device `d` owes `c`'s receive cell `k`: a landing, if the target of row `k` is `c`. -/
theorem owed_recv (d c : Dev nD) (k : Fin 7) : O₀ d (recvCell k c) () = if tgt d k = c then N else 0 := by
  rw [O₀_eq, Pi.add_apply, Finsupp.add_apply, sum_tallyAt, sum_tallyAt,
    Finset.sum_eq_zero (fun k' _ => if_neg fun h => dma_ne_bar _ (congrArg Prod.snd h) : ∀ k' ∈ Finset.univ, (if recvCell k c = barCell (tgt d k') then 1 else 0) = 0), Nat.add_zero,
    Finset.sum_eq_single k (fun k' _ hk => if_neg fun h => hk (recvS_inj (SemLoc.dma.inj (congrArg Prod.snd h))).symm) (fun h => absurd (Finset.mem_univ k) h)]
  refine if_congr ⟨fun h => ?_, fun h => by rw [h]⟩ rfl rfl
  exact (congrArg (fun g : GSem nD τ sig => g.1.1) h).symm

/-- Just one device is the one `k + 1` places before `c`. -/
theorem sum_hop (k : Fin 7) (c : Dev nD) (n : ℕ) : (∑ d : Dev nD, if tgt d k = c then n else 0) = n := by
  rw [show (∑ d : Dev nD, if tgt d k = c then n else 0) = ∑ d, (fun d => if d = c then n else 0) (hop k d) from rfl,
    Equiv.sum_comp (hop k) (fun d => if d = c then n else 0), Finset.sum_ite_eq' Finset.univ c fun _ => n, if_pos (Finset.mem_univ _)]

omit [FloatOps F] in
/-- A handshake cell is owed seven units at the launch. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => sum_hop k c 1]
  rfl

omit [FloatOps F] in
/-- A receive cell is owed one landing at the launch. -/
theorem launch_recv (c : Dev nD) (k : Fin 7) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv d c k, sum_hop]

/-- The semaphores whose credits a device uses. -/
abbrev lsem : Unit ⊕ Fin 7 → SemLoc sig | .inl _ => .reg barS | .inr k => .dma (recvS k)
/-- These semaphores differ. -/
theorem lsem_injective : Function.Injective lsem := by decide

omit [FloatOps F] in
/-- The launch's credits are those a device waits with. -/
theorem creds (c : Dev nD) : (Pipeline.launchCred O₀ c : sProp 𝕄) ⊢ dealt c := by
  have h : (bigSep (Finset.univ.map ⟨lsem, lsem_injective⟩) fun sm : SemLoc sig =>
      cred (tallyOn ((c : Thread nD τ), sm) (launchCredit (Pipeline.owing O₀) 0 ((c : Thread nD τ), sm))) : sProp 𝕄) = dealt c := by
    rw [bigSep_map, bigSep_univ_sum, bigSep_unit]
    unfold dealt
    rw [← launch_bar, ← bigSep_congr fun k _ => congrArg cred (launch_recv c k)]
    rfl
  rw [← h]
  exact bigSep_subset (Finset.subset_univ (Finset.univ.map ⟨lsem, lsem_injective⟩))

end Cert.Scan

end
-- ==== Proof.Launch.lean ====
/-
# The run

From any memory with every counter at zero, every weakly fair execution of @main on all devices ends, with every device's
result array at `result`, its argument as it was and every semaphore counter at zero.
-/
module

public import proofs.«01_k».proof.Proof.Tokens
public import Idealize.ShloMosaic.Lib.Pipeline.CollectiveSegs

@[expose] public section

noncomputable section

namespace Cert.Scan

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (ρ : Dev nD → PrngReg)
variable (m : (ℓ : Loc nD τ sig) → Buf (Elt F) ℓ)

/-- The memory @main starts from. -/
abbrev s₀ : MemSt nD τ sig (Elt F) := ⟨m, fun _ => 0, ρ⟩

/-- The launch holds its window's array whole. -/
theorem share_eq (c : Dev nD) (w : Fin cfg0.W) : (dats m 0 c).share w = fullShare := by unfold Dat.share; split <;> rfl

omit [FloatOps F] in
/-- The starting element is the launch library's part and the exchange's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch deals device `c` is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m c)
      ⊢ |={Set.univ}=> iprop(start m c ∗ emp) := by
  rw [Pipeline.unscopedRestP_none, unscopedRest0_eq]
  iintro ⟨Hx, Hlev, Hcr, -, HG⟩
  ihave Hc := (creds (F := F) c) $$ Hcr
  imodintro
  unfold start argPts
  isplitl
  · isplitl [HG]; · iexact HG
    isplitl [Hc]; · iexact Hc
    isplitl [Hlev]; · iexact Hlev
    iexact Hx
  · iempintro

/-- What the body starts from, with the scratch buffers, is the record's assertion before the point. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs]; · iexact Hs
  iexact Hr

/-- The record's assertion after the point gives back the argument, every semaphore at zero, and the scratch buffers. -/
theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ cells0 scratches
  iintro ⟨Hx, Hs, Hl, HB, HS, HV⟩
  isplitl [HB Hx]
  · isplitl [HB] <;> iassumption
  isplitl [Hl HS HV]
  · isplitl [Hl]; · iexact Hl
    isplitl [HS] <;> iassumption
  iexact Hs

/-- The launch's own waits are allowed at every point. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr (Or.inr rfl))

/-- The device's argument, read in the end. -/
theorem arg_read (c : Dev nD) (s : _) :
    iprop((unscopedSems0 c ∗ argPts m c) ∗ emp ∗ SI s) ⊢ (|={Set.univ}=> iprop(⌜(∀ sm : SemLoc sig, sm.isScoped .tc = false → s.mem.sem ((c.tc : Thread nD τ), sm) = 0)
        ∧ s.mem.mem ((c : Thread nD τ).loc main_arg0) = m ((c : Thread nD τ).loc main_arg0)⌝ ∗ SI s) : sProp 𝕄) := by
  unfold argPts
  iintro ⟨⟨Hu, Hx⟩, -, HSI⟩
  ihave %h := (SI_pointsTo_agree (st := s) (ℓ := (c : Thread nD τ).loc main_arg0) (I := Finset.univ) (q := fullShare) (f := m ((c : Thread nD τ).loc main_arg0))) $$ [HSI Hx]
  · isplitl [HSI] <;> iassumption
  imod (Pipeline.unscopedSems0_read (X := unscopedSems0 c) (c := c) fupd_intro s) $$ [Hu HSI] with ⟨%h', HSI⟩
  · isplitl [Hu] <;> iassumption
  imodintro
  isplitr
  · ipureintro; exact ⟨h', funext fun i => h i (Finset.mem_univ i)⟩
  iexact HSI

/-- The result array after the run, as the launch computes it. -/
def finalA (c : Dev nD) : Buf (Elt F) ((cfg0.win 0).arr.view.loc (c : Thread nD τ)) := (dats m 0 c).arrAt (0 : Fin 1) cfg0.N

/-- Every device's result array as the launch computes it, its argument unchanged. -/
def QC : PUnit × MemSt nD τ sig (Elt F) → Prop := fun r =>
  ∀ c : Dev nD, r.2.mem ((cfg0.win 0).arr.view.loc (c : Thread nD τ)) = finalA m c ∧ r.2.mem ((c : Thread nD τ).loc main_arg0) = m ((c : Thread nD τ).loc main_arg0)

set_option maxRecDepth 8000 in
/-- The launch library's form of the run. -/
theorem run_raw : θ_run defs (onTc (τ := τ) (main (F := F))) (s₀ ρ m) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := held m) (u₀ := u₀)
    (hu₀ := by
      unfold u₀
      iintro Hu
      ihave H := (ownU_split _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro ρ m) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => arg_read m c s')
    (hQ := fun _ h hs => ⟨fun c => ⟨(h c).1 0, (h c).2.2.2⟩, sem_eq_zero hs fun c => (h c).2.2.1⟩)

/-- The one write-back writes the whole array. -/
theorem finalA_eq (c : Dev nD) : (win0_0.blk (0 : Fin 1)).view.read (Elt F) (finalA m c) = result m c := by
  unfold finalA
  rw [show cfg0.N = ((0 : Fin 1) : Fin cfg0.N).val + 1 from rfl, (dats m 0 c).arrAt_succ (0 : Fin 1) (0 : Fin 1)]
  rw [show (cfg0.win (0 : Fin 1)).flush (0 : Fin 1) = true from flush0_0 _, if_pos rfl]
  exact View.read_write_univ _ _

/-- At any float values, from any memory with zero counters, every run of @main ends with each device's result array at
    `result`, its argument unchanged, every counter at zero. -/
theorem run_main : θ_run defs (onTc (τ := τ) (main (F := F))) (s₀ ρ m) (fun r =>
    (∀ c : Dev nD, r.2.mem ((c : Thread nD τ).loc main_v1) = result m c ∧ r.2.mem ((c : Thread nD τ).loc main_arg0) = m ((c : Thread nD τ).loc main_arg0))
      ∧ r.2.sem = fun _ => 0) := by
  refine (θ_run defs _ _).mono (fun r h => ⟨fun c => ⟨((h.1 c).1).trans ?_, (h.1 c).2⟩, h.2⟩) (run_raw ρ m)
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  have ho := finalA_eq m c
  rw [hr] at ho
  exact ho

end Cert.Scan

end
-- ==== Proof.Sums.lean ====
/-
# Sums over the rows

Sums of the first rows of a column, over any commutative addition: cut into blocks of equal length, masked by a bound,
and read through a window that slides over them.
-/
module

public import Mathlib.Algebra.BigOperators.Fin
public import Mathlib.Algebra.BigOperators.Intervals

@[expose] public section

noncomputable section

namespace Cert.Scan

open scoped BigOperators

variable {M : Type*} [AddCommMonoid M]

/-- The sum of the terms below `p + 1`, over a longer range, the others left out. -/
theorem sum_masked {n p : ℕ} (h : p < n) (g : ℕ → M) : (∑ k : Fin n, if k.val ≤ p then g k.val else 0) = ∑ k ∈ Finset.range (p + 1), g k := by
  rw [Fin.sum_univ_eq_sum_range (fun k => if k ≤ p then g k else 0) n, ← Finset.sum_filter]
  refine Finset.sum_congr (Finset.ext fun k => ?_) fun _ _ => rfl
  rw [Finset.mem_filter, Finset.mem_range, Finset.mem_range]
  omega

/-- The first `c` blocks' totals make the total of the first `w * c` terms. -/
theorem sum_blocks (w c : ℕ) (g : ℕ → M) : (∑ j ∈ Finset.range c, ∑ i ∈ Finset.range w, g (w * j + i)) = ∑ i ∈ Finset.range (w * c), g i := by
  induction c with
  | zero => rfl
  | succ c ih => rw [Finset.sum_range_succ, ih, Nat.mul_succ, Finset.sum_range_add]

/-- The terms `c - k - 1` for the `k + 1` at most `c`, of `n` of them, are the terms below `c`. -/
theorem sum_before {n c : ℕ} (h : c ≤ n) (T : ℕ → M) : (∑ k : Fin n, if k.val + 1 ≤ c then T (c - 1 - k.val) else 0) = ∑ j ∈ Finset.range c, T j := by
  rw [Fin.sum_univ_eq_sum_range (fun k => if k + 1 ≤ c then T (c - 1 - k) else 0) n, ← Finset.sum_filter, ← Finset.sum_range_reflect T c]
  refine Finset.sum_congr (Finset.ext fun k => ?_) fun _ _ => rfl
  rw [Finset.mem_filter, Finset.mem_range, Finset.mem_range]
  omega

/-- The window of `n + 1` places ending at row `r` holds the rows up to `r`, after `n - r` places before the first row. -/
theorem sum_window {n r : ℕ} (h : r ≤ n) (g : ℕ → M) :
    (∑ a : Fin (n + 1), if n ≤ r + a.val then g (r + a.val - n) else 0) = ∑ i ∈ Finset.range (r + 1), g i := by
  rw [Fin.sum_univ_eq_sum_range (fun a => if n ≤ r + a then g (r + a - n) else 0) (n + 1), show n + 1 = (n - r) + (r + 1) by omega, Finset.sum_range_add,
    Finset.sum_eq_zero fun a ha => if_neg (by rw [Finset.mem_range] at ha; omega), zero_add]
  exact Finset.sum_congr rfl fun i _ => by rw [if_pos (by omega)]; congr 1; omega

/-- Adding the terms one after another to `v` adds their sum. -/
theorem foldl_sum {n : ℕ} (g : Fin n → M) (v : M) : (List.finRange n).foldl (fun r i => r + g i) v = v + ∑ i, g i := by
  rw [Fin.sum_univ_def]
  generalize List.finRange n = l
  induction l generalizing v with
  | nil => exact (add_zero v).symm
  | cons i l ih => rw [List.foldl_cons, ih, List.map_cons, List.sum_cons, add_assoc]

end Cert.Scan

end
-- ==== Proof.BlockValue.lean ====
/-
# What the blocks come to

At the exact values: one block's running sums are the sums of its first rows plus the total carried in, so the blocks'
running sums are the running sums of all the device's rows.
-/
module

public import proofs.«01_k».proof.Proof.Contents
public import proofs.«01_k».proof.Proof.Sums
public import Idealize.ShloMosaic.PureOps.Ideal.Laws
public import Idealize.ShloMosaic.Lib.MatmulPlain
public import Idealize.ShloMosaic.Lib.WordCmp
public import Idealize.ShloMosaic.Lib.ValueIdx
public import Idealize.ShloMosaic.Lib.Pipeline.Value

@[expose] public section

noncomputable section

namespace Cert.Scan

open Cert.KernelIdeal Cert.KernelIdeal.Gen
open Idealize.ShloMosaic Idealize.ShloMosaic.ValueIdx
open scoped BigOperators

/-- The pair of two coordinates is the library's index of that row and column. -/
theorem at2_eq {n p : ℕ} (a : Fin n) (b : Fin p) : at2 a b = ix2 a b := funext fun d => by
  match d with
  | ⟨0, _⟩ => rfl
  | ⟨1, _⟩ => rfl

/-- A bit, widened and read as a number. -/
theorem bit_value (p : Prop) [Decidable p] : (FloatOps.sitofp .f32 ((BitVec.ofBool (decide p)).setWidth 32) : Ideal .f32) = if p then (1 : EReal) else 0 := by
  by_cases h : p
  · rw [if_pos h, decide_eq_true h]
    show (((1 : ℤ) : ℝ) : EReal) = 1
    norm_num
  · rw [if_neg h, decide_eq_false h]
    show (((0 : ℤ) : ℝ) : EReal) = 0
    norm_num

/-- The triangle's entry: one on and below the diagonal, zero above. -/
theorem tri_apply (p k : Fin 512) : (tri (F := Ideal)) (ix2 p k) = if k.val ≤ p.val then (1 : EReal) else 0 := by
  have hp := p.isLt
  have hk := k.isLt
  show (FloatOps.sitofp .f32 ((IntOp.cmpi .sge (BitVec.ofNat 32 (0 * 512 + p.val)) (BitVec.ofNat 32 (0 * 512 + k.val))).setWidth 32) : Ideal .f32) = _
  rw [Nat.zero_mul, Nat.zero_add, Nat.zero_add, WordCmp.cmpi_sge_ofNat (by omega) (by omega)]
  exact bit_value _

/-- One block's running sums: at row `p`, its rows up to `p` summed, and the total carried in. -/
theorem stepSums_apply (v : Vec Ideal S1x512x1024 .f32) (t : FVec Ideal S1x1024 .f32) (p : Fin 512) (q : Fin 1024) :
    stepSums v t (at2 p q) = (∑ k : Fin 512, if k.val ≤ p.val then (v (at3 0 k q) : EReal) else 0) + t (at2 0 q) := by
  rw [at2_eq]
  have hm : matmul (DotDims.plain 512 512 1024) none (tri (F := Ideal)) (shapeCast S512x1024 v shapeCasts_S1x512x1024_S512x1024 : FVec Ideal S512x1024 .f32) (constant S512x1024 .f32 0x00000000#32) (ix2 p q)
      = ∑ k : Fin 512, if k.val ≤ p.val then (v (at3 0 k q) : EReal) else 0 := by
    refine (Ideal.matmul_plain_apply ..).trans ?_
    rw [constant_apply, Ideal.ofBits_zero_f32, zero_add]
    refine Finset.sum_congr rfl fun k _ => ?_
    rw [tri_apply, shapeCast_dropUnit_apply ![512, 1024] v _ (ix2 k q), show (Fin.cons ⟨0, Nat.one_pos⟩ (ix2 k q) : S1x512x1024.Idx) = at3 0 k q from funext fun d => by
      match d with
      | ⟨0, _⟩ => rfl
      | ⟨1, _⟩ => rfl
      | ⟨2, _⟩ => rfl]
    split
    · exact one_mul _
    · exact zero_mul _
  have hb : broadcastTo S512x1024 t broadcasts_S1x1024_S512x1024 (ix2 p q) = t (at2 0 q) :=
    broadcastTo_apply _ _ _ _ fun a => by
      match a with
      | ⟨0, _⟩ => rfl
      | ⟨1, _⟩ => rfl
  exact congrArg₂ (· + ·) hm hb

/-- The carried total is the last row. -/
theorem lastRow_apply (w : FVec Ideal S512x1024 .f32) (q : Fin 1024) : lastRow w (at2 0 q) = w (at2 ⟨511, by decide⟩ q) :=
  extractStridedSlice_apply _ _ _ _ _ fun a => by
    match a with
    | ⟨0, _⟩ => rfl
    | ⟨1, _⟩ => exact (Nat.zero_add _).symm

/-- Column `q` of the rows `x`, counted from zero. -/
def column (x : S8192x1024.Idx → Elt Ideal .f32) (q : Fin 1024) (n : ℕ) : EReal := x (at2 ⟨n % 8192, Nat.mod_lt _ (by decide)⟩ q)

/-- A block's running sums over the column: from the total carried in. -/
theorem blockSums_step (x : S8192x1024.Idx → Elt Ideal .f32) (b : ℕ) (p : Fin 512) (q : Fin 1024)
    (h : carry (blockOf x) b (at2 0 q) = ∑ i ∈ Finset.range (512 * b), column x q i) :
    blockSums (blockOf x) b (at2 p q) = ∑ i ∈ Finset.range (512 * b + (p.val + 1)), column x q i := by
  unfold blockSums
  rw [stepSums_apply, h, Finset.sum_range_add, add_comm]
  refine congrArg _ ?_
  exact sum_masked p.isLt fun k => column x q (512 * b + k)

/-- The total carried into block `b` is the sum of all the rows before it. -/
theorem carry_apply (x : S8192x1024.Idx → Elt Ideal .f32) (q : Fin 1024) (b : ℕ) :
    carry (blockOf x) b (at2 0 q) = ∑ i ∈ Finset.range (512 * b), column x q i := by
  induction b with
  | zero => exact Ideal.ofBits_zero_f32
  | succ b ih => exact (lastRow_apply _ q).trans (blockSums_step x b ⟨511, by decide⟩ q ih)

/-- Block `b`'s running sums are the rows' running sums. -/
theorem blockSums_apply (x : S8192x1024.Idx → Elt Ideal .f32) (b : ℕ) (p : Fin 512) (q : Fin 1024) :
    blockSums (blockOf x) b (at2 p q) = ∑ i ∈ Finset.range (512 * b + (p.val + 1)), column x q i :=
  blockSums_step x b p q (carry_apply x q b)

/-- The column totals are the sums of all the rows. -/
theorem totals_apply (x : S8192x1024.Idx → Elt Ideal .f32) (q : Fin 1024) : totals x (at2 0 q) = ∑ i ∈ Finset.range 8192, column x q i :=
  carry_apply x q 16

end Cert.Scan

end
-- ==== Proof.ResultValue.lean ====
/-
# What a device ends with

At the exact values, a device's row holds the sum of its own rows up to it, and of all the rows of the devices before.
-/
module

public import proofs.«01_k».proof.Proof.BlockValue
public import proofs.«01_k».proof.Proof.Adding
public import Idealize.ShloMosaic.Lib.Layout

@[expose] public section

noncomputable section

namespace Cert.Scan

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-- The word for a device's place is its number. -/
theorem place_eq (c : Dev nD) : place c = BitVec.ofNat 32 c.val := by revert c; decide

/-- The mask's entry for row `k`: one if the row is from a device before. -/
theorem mask_apply (c : Dev nD) (k : Fin 7) :
    (FloatOps.sitofp .f32 ((IntOp.cmpi .sle (BitVec.ofNat 32 (0 * 7 + k.val) + 1#32) (place c)).setWidth 32) : Ideal .f32) = if k.val + 1 ≤ c.val then (1 : EReal) else 0 := by
  have h : IntOp.cmpi .sle (BitVec.ofNat 32 (0 * 7 + k.val) + 1#32) (place c) = BitVec.ofBool (decide (k.val + 1 ≤ c.val)) := by
    revert c k; decide
  rw [h]
  exact bit_value _

/-- The landed rows that are kept, summed. -/
theorem prefix_apply (c : Dev nD) (v : Vec Ideal S7x1x1024 .f32) (q : Fin 1024) (w : Vec Ideal S512x1024 .f32) (p : Fin 512) :
    k0_pay1 (place c) v w (at2 p q) = (w (at2 p q) : EReal) + ∑ k : Fin 7, if k.val + 1 ≤ c.val then (v (at3 k 0 q) : EReal) else 0 := by
  have hr (u : FVec Ideal S7x1x1024 .f32) : multiReduction .add [0] S1x1024 u 0x00000000#32 reduces_S7x1x1024_S1x1024 (.inl rfl) rfl (at2 0 q)
      = ∑ k : Fin 7, (u (at3 k 0 q) : EReal) :=
    (Ideal.multiReduction_add_single u _ reduces_S7x1x1024_S1x1024 (.inl rfl) rfl (at2 0 q)).trans
      (Finset.sum_congr rfl fun k _ => congrArg u (funext fun d => Fin.ext (by
        match d with
        | ⟨0, _⟩ => rfl
        | ⟨1, _⟩ => rfl
        | ⟨2, _⟩ => rfl)))
  have hb (t : FVec Ideal S1x1024 .f32) : broadcastTo S512x1024 t broadcasts_S1x1024_S512x1024 (at2 p q) = t (at2 0 q) :=
    broadcastTo_apply _ _ _ _ fun a => by
      match a with
      | ⟨0, _⟩ => rfl
      | ⟨1, _⟩ => rfl
  have hc (t : FVec Ideal S7x1x1 .f32) (k : Fin 7) : broadcastTo S7x1x1024 t broadcasts_S7x1x1_S7x1x1024 (at3 k 0 q) = t (at3 k 0 0) :=
    broadcastTo_apply _ _ _ _ fun a => by
      match a with
      | ⟨0, _⟩ => rfl
      | ⟨1, _⟩ => rfl
      | ⟨2, _⟩ => rfl
  unfold k0_pay1
  rw [addf_apply, shapeCast_self, hb, hr]
  refine congrArg _ (Finset.sum_congr rfl fun k _ => ?_)
  rw [mulf_apply, hc]
  refine (congrArg (fun y : EReal => (v (at3 k 0 q) : EReal) * y) (mask_apply c k)).trans ?_
  split
  · exact mul_one _
  · exact mul_zero _

/-- What landed in row `k`: the total of the rows of the device `k + 1` places before. -/
theorem landing_apply (c : Dev nD) (k : Fin 7) (q : Fin 1024) :
    landing m c (at3 k 0 q) = ∑ i ∈ Finset.range 8192, column (xAt m (src c k)) q i :=
  totals_apply (xAt m (src c k)) q

/-- Column `q` of the whole array `X`, counted from zero. -/
def wholeColumn (X : (⟨2, ![65536, 1024]⟩ : Shape).Idx → EReal) (q : Fin 1024) (n : ℕ) : EReal := X (at2 ⟨n % 65536, Nat.mod_lt _ (by decide)⟩ q)

/-- A device's column is its stretch of the whole array's. -/
theorem column_block (X : (⟨2, ![65536, 1024]⟩ : Shape).Idx → EReal) (hX : ∀ c : Dev nD, xAt m c = Layout.block ⟨2, ![8192, 1024]⟩ ⟨2, ![65536, 1024]⟩ 0 8 c X)
    (c : Dev nD) (q : Fin 1024) {i : ℕ} (hi : i < 8192) : column (xAt m c) q i = wholeColumn X q (8192 * c.val + i) := by
  have hc : c.val < 8 := c.isLt
  unfold column wholeColumn
  rw [hX c, Layout.block_apply]
  refine congrArg X (funext fun d => Fin.ext ?_)
  match d with
  | ⟨0, _⟩ =>
    refine (Layout.idx_rows_val _ c _).1.trans ?_
    show c.val * 8192 + i % 8192 = (8192 * c.val + i) % 65536
    omega
  | ⟨1, _⟩ => rfl

/-- A device's result is its stretch of the whole array's running sums. -/
theorem result_apply (X : (⟨2, ![65536, 1024]⟩ : Shape).Idx → EReal) (hX : ∀ c : Dev nD, xAt m c = Layout.block ⟨2, ![8192, 1024]⟩ ⟨2, ![65536, 1024]⟩ 0 8 c X)
    (c : Dev nD) (r : Fin 8192) (q : Fin 1024) :
    result m c (at2 r q) = ∑ i ∈ Finset.range (8192 * c.val + r.val + 1), wholeColumn X q i := by
  have hr := r.isLt
  have hown : ∑ i ∈ Finset.range (512 * (r.val / 512) + (r.val % 512 + 1)), column (xAt m c) q i
      = ∑ i ∈ Finset.range (r.val + 1), wholeColumn X q (8192 * c.val + i) := by
    rw [show 512 * (r.val / 512) + (r.val % 512 + 1) = r.val + 1 by omega]
    exact Finset.sum_congr rfl fun i hi => column_block m X hX c q (by rw [Finset.mem_range] at hi; omega)
  have hbefore : (∑ k : Fin 7, if k.val + 1 ≤ c.val then (landing m c (at3 k 0 q) : EReal) else 0) = ∑ i ∈ Finset.range (8192 * c.val), wholeColumn X q i := by
    rw [← sum_blocks, ← sum_before (n := 7) (Nat.le_of_lt_succ c.isLt)]
    refine Finset.sum_congr rfl fun k _ => ?_
    by_cases h : k.val + 1 ≤ c.val
    · rw [if_pos h, if_pos h, landing_apply]
      refine Finset.sum_congr rfl fun i hi => ?_
      rw [column_block m X hX _ q (Finset.mem_range.mp hi)]
      have hs : (src c k).val = c.val - 1 - k.val := by
        have hc : c.val < 8 := c.isLt
        show (c.val + 7 - k.val) % 8 = _
        omega
      rw [hs]
    · rw [if_neg h, if_neg h]
  refine (prefix_apply c (landing m c) q (blockSums (blockOf (xAt m c)) (r.val / 512)) ⟨r.val % 512, Nat.mod_lt _ (by decide)⟩).trans ?_
  rw [blockSums_apply, hown, hbefore, add_comm, Nat.add_assoc, Finset.sum_range_add _ (8192 * c.val)]

end Cert.Scan

end
-- ==== Proof.RefValue.lean ====
/-
# What the reference computes

The reference's run, and its result at the exact values: every row holds the sum of the rows up to it.
-/
module

public import proofs.«01_k».proof.Proof.BlockValue
public import proofs.«01_k».proof.Proof.Contents
public import proofs.«01_k».proof.Proof.Gen.ReferenceIdeal
public import Idealize.ShloMosaic.Lib.StableHlo.Run
public import Idealize.ShloMosaic.PureOps.Ideal.Laws
public import Idealize.ShloMosaic.Lib.ValueIdx

@[expose] public section

noncomputable section

namespace Cert.Scan

namespace Ref

open Cert.ReferenceIdeal Cert.ReferenceIdeal.Gen
open Idealize.ShloMosaic Idealize.ShloMosaic.TcCoe Idealize.ShloMosaic.StableHlo Idealize.ShloMosaic.ValueIdx Idealize.SL.Sem
open scoped BigOperators

variable {F : FTy → Type} [FloatOps F]

/-- The reference's result from its argument. -/
def scanOf (x : FVec F S65536x1024 .f32) : FVec F S65536x1024 .f32 :=
  Host.reduceWindowAdd ![65536, 1] ![1, 1] ![65535, 0] ![0, 0] x (broadcastInDim S_ ![] bcast_S_S_ (constant S_ .f32 0x00000000#32))
    reduceWindows_S65536x1024_S65536x1024_w65536s1p65535_0_w1s1p0_0 h_S_

/-- @main's operations, in order. -/
abbrev ops : List (HloOp τ sig (Elt F)) :=
  [ nullary main_call0_call0_cst (constant S_ .f32 0x00000000#32),
    unary main_call0_call0_cst main_call0_call0_v0 (broadcastInDim S_ ![] bcast_S_S_),
    binary main_arg0 main_call0_call0_v0 main_v0 (fun x v => Host.reduceWindowAdd ![65536, 1] ![1, 1] ![65535, 0] ![0, 0] x v
      reduceWindows_S65536x1024_S65536x1024_w65536s1p65535_0_w1s1p0_0 h_S_) ]

/-- The reference is its operations in turn. -/
theorem main_eq (c : Dev nD) : main (F := F) c = seq ops := rfl

/-- After the operations the result is `scanOf` of the argument. -/
theorem out_eq (V : Valuation τ sig (Elt F)) : after ops V (main_v0 : DevRef τ sig) = scanOf (V (main_arg0 : DevRef τ sig)) := by
  after_results
  rfl

/-- The operations leave the argument as it was. -/
theorem arg0_eq (V : Valuation τ sig (Elt F)) : after ops V (main_arg0 : DevRef τ sig) = V (main_arg0 : DevRef τ sig) := by
  after_results

/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide

/-- Every operation works on the device's own buffers. -/
theorem ops_sub : (ops : List (HloOp τ sig (Elt F))).Forall fun op => op.bufs ⊆ tcRefs τ sig :=
  ⟨nullary_bufs_sub .., unary_bufs_sub .., binary_bufs_sub ..⟩

/-- From any memory, every run of the reference ends with its result at `scanOf` of its argument and the argument unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_v0) = scanOf (m ((c : Thread nD τ).loc main_arg0))
        ∧ r.2.mem ((c : Thread nD τ).loc main_arg0) = m ((c : Thread nD τ).loc main_arg0) := by
  exact (θ_run defs _ _).mono (fun _ h c => ⟨(h c main_v0).trans (out_eq _), (h c main_arg0).trans (arg0_eq _)⟩)
    (run_seq scopedRefs_eq scopedSems_eq defs main (fun _ => ops) main_eq (fun _ => ops_sub) m ρ)

/-- A window sum at an index: the initial value, and the terms at the window's places. -/
theorem windowSum_apply {s t : Shape} (window strides lo hi : Fin s.rank → ℕ) (h : s.ReduceWindows window strides lo hi t) (x : s.Idx → EReal) (init : EReal) (j : t.Idx) :
    Ideal.hostReduceWindowAdd window strides lo hi h x init j
      = init + ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else init := by
  rw [← Equiv.sum_comp (⟨s.rank, window⟩ : Shape).rowMajor.symm, ← foldl_sum]
  unfold Ideal.hostReduceWindowAdd Host.reduceWindow
  refine congrArg (fun f => List.foldl f init (List.finRange (⟨s.rank, window⟩ : Shape).numel)) (funext fun v => funext fun i => ?_)
  refine congrArg (v + ·) ?_
  by_cases hin : ∀ a, lo a ≤ (j (a.cast h.1.symm)).val * strides a + ((⟨s.rank, window⟩ : Shape).rowMajor.symm i a).val
      ∧ (j (a.cast h.1.symm)).val * strides a + ((⟨s.rank, window⟩ : Shape).rowMajor.symm i a).val - lo a < s.size a
  · rw [dif_pos hin]
    symm
    exact dif_pos hin
  · rw [dif_neg hin]
    symm
    exact dif_neg hin

/-- A window reaching from a row back over all the rows before it sums the column up to that row. -/
theorem windowSum_rows {N n p : ℕ} (hN : N = n + 1) (x : (⟨2, ![N, p]⟩ : Shape).Idx → EReal)
    (h : (⟨2, ![N, p]⟩ : Shape).ReduceWindows ![N, 1] ![1, 1] ![n, 0] ![0, 0] ⟨2, ![N, p]⟩) (r : Fin N) (q : Fin p) :
    Ideal.hostReduceWindowAdd (s := ⟨2, ![N, p]⟩) ![N, 1] ![1, 1] ![n, 0] ![0, 0] h x 0 (ix2 r q)
      = ∑ i ∈ Finset.range (r.val + 1), x (ix2 ⟨i % N, Nat.mod_lt _ (hN ▸ n.succ_pos)⟩ q) := by
  subst hN
  have hr := r.isLt
  have hq := q.isLt
  rw [windowSum_apply, zero_add, sum_idx2, ← sum_window (n := n) (Nat.le_of_lt_succ r.isLt) fun i => x (ix2 ⟨i % (n + 1), Nat.mod_lt _ n.succ_pos⟩ q)]
  refine Finset.sum_congr rfl fun a _ => (Fin.sum_univ_one _).trans ?_
  have ha : a.val < n + 1 := a.isLt
  by_cases hn : n ≤ r.val + a.val
  · rw [if_pos hn]
    refine (dif_pos fun b => ?_).trans (congrArg x (funext fun b => Fin.ext ?_))
    · match b with
      | ⟨0, _⟩ =>
        show n ≤ r.val * 1 + a.val ∧ r.val * 1 + a.val - n < n + 1
        omega
      | ⟨1, _⟩ =>
        show 0 ≤ q.val * 1 + 0 ∧ q.val * 1 + 0 - 0 < p
        omega
    · match b with
      | ⟨0, _⟩ =>
        show r.val * 1 + a.val - n = (r.val + a.val - n) % (n + 1)
        rw [Nat.mod_eq_of_lt (by omega), Nat.mul_one]
      | ⟨1, _⟩ =>
        show q.val * 1 + 0 - 0 = q.val
        omega
  · rw [if_neg hn]
    refine dif_neg fun hin => hn ?_
    have h0 : n ≤ r.val * 1 + a.val := (hin 0).1
    omega

/-- The whole array's running sums, row by row. -/
theorem scanOf_apply (x : FVec Ideal S65536x1024 .f32) (r : Fin 65536) (q : Fin 1024) :
    scanOf x (at2 r q) = ∑ i ∈ Finset.range (r.val + 1), (x (at2 ⟨i % 65536, Nat.mod_lt _ (by decide)⟩ q) : EReal) := by
  have h0 : (broadcastInDim S_ ![] bcast_S_S_ (constant (F := Ideal) S_ .f32 0x00000000#32)) (Shape.Idx.first h_S_) = (0 : EReal) :=
    Ideal.ofBits_zero_f32
  unfold scanOf Host.reduceWindowAdd
  simp only [at2_eq]
  rw [Ideal.hostReduceWindowAdd_def, h0]
  exact windowSum_rows (n := 65535) rfl x _ r q

end Ref

end Cert.Scan

end
-- ==== Proof.Claims.lean ====
/-
# The claims

The frames of the kernel, of its idealization and of the reference, and the equality of the last two's results.
-/
module

public import proofs.«01_k».proof.Defs
public import proofs.«01_k».proof.Proof.Launch
public import proofs.«01_k».proof.Proof.ResultValue
public import proofs.«01_k».proof.Proof.RefValue
public import proofs.«01_k».proof.Proof.Gen.Kernel

@[expose] public section

noncomputable section

namespace Cert.Scan

open Idealize.ShloMosaic Idealize.ShloMosaic.ValueIdx Idealize.SL.Sem

attribute [local instance] Cert.Kernel.Gen.facts Cert.KernelIdeal.Gen.facts Cert.ReferenceIdeal.Gen.facts

/-- The kernel and its idealization have the same bodies. -/
theorem bodies_eq : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => rfl

/-- The kernel and its idealization declare the same. -/
theorem defs_eq : Cert.Kernel.defs (F := Bits) = Cert.KernelIdeal.defs := by
  unfold Cert.Kernel.defs Cert.KernelIdeal.defs
  exact congrArg (Pipeline.defs Cert.KernelIdeal.pcfgs) bodies_eq

/-- The kernel and its idealization run the same. -/
theorem main_eq : Cert.Kernel.main (F := Bits) = Cert.KernelIdeal.main (F := Bits) := rfl

/-- The kernel at the bits: every run ends, the arguments unchanged and every counter at zero. -/
theorem frame_kernel : Cert.quiescent_Kernel := by
  intro m ρ _
  rw [defs_eq, main_eq]
  exact (θ_run Cert.KernelIdeal.defs _ _).mono (fun _ h => ⟨fun c => (h.1 c).2, h.2⟩) (run_main (F := Bits) ρ m)

/-- The idealized kernel: every run ends, the arguments unchanged and every counter at zero. -/
theorem frame_kernelIdeal : Cert.quiescent_KernelIdeal := fun m ρ _ =>
  (θ_run Cert.KernelIdeal.defs _ _).mono (fun _ h => ⟨fun c => (h.1 c).2, h.2⟩) (run_main (F := Ideal) ρ m)

/-- The idealized reference: every run ends, the argument unchanged; it declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Ref.run_main (F := Ideal) m ρ)

/-- If the devices' arguments are the blocks of `X`, their results are the blocks of the running sums of `X`. -/
theorem result_eq_block (m : (ℓ : Loc Cert.KernelIdeal.nD Cert.KernelIdeal.τ Cert.KernelIdeal.sig) → Buf (Elt Ideal) ℓ)
    (X : (⟨2, ![65536, 1024]⟩ : Shape).Idx → EReal)
    (hX : ∀ c, xAt m c = Layout.block ⟨2, ![8192, 1024]⟩ ⟨2, ![65536, 1024]⟩ 0 8 c X) (c : Fin 8) :
    result m c = Layout.block ⟨2, ![8192, 1024]⟩ ⟨2, ![65536, 1024]⟩ 0 8 c (Ref.scanOf (F := Ideal) X) := by
  funext i
  have hc : c.val < 8 := c.isLt
  have h0 : (i 0).val < 8192 := (i 0).isLt
  have hi : i = at2 (i 0) (i 1) := (eq_ix2 i).trans (at2_eq _ _).symm
  have hT : Layout.Tiles (⟨2, ![8192, 1024]⟩ : Shape) (⟨2, ![65536, 1024]⟩ : Shape) 0 8 := by decide
  have hj : hT.idx c i = at2 ⟨8192 * c.val + (i 0).val, by omega⟩ (i 1) := by
    funext a
    match a with
    | ⟨0, _⟩ => exact Fin.ext ((Layout.idx_rows_val hT c i).1.trans (congrArg (· + (i 0).val) (Nat.mul_comm _ _)))
    | ⟨1, _⟩ => exact Fin.ext (Layout.idx_rows_val hT c i).2
  refine Eq.trans ?_ (congrArg (Ref.scanOf (F := Ideal) X) hj).symm
  exact ((congrArg (result m c) hi).trans (result_apply m X hX c (i 0) (i 1))).trans (Ref.scanOf_apply X ⟨8192 * c.val + (i 0).val, by omega⟩ (i 1)).symm

/-- At the exact values the idealized kernel's results are the blocks of the idealized reference's. -/
theorem kernel_eq_reference : Cert.algebraic_KernelIdeal_ReferenceIdeal := by
  intro m ρ m' ρ' _ hX
  refine ⟨_, (θ_run Cert.KernelIdeal.defs _ _).mono (fun _ h c => ⟨(h.1 c).1.trans (result_eq_block m _ hX c), (h.1 c).2⟩) (run_main (F := Ideal) ρ m), ?_⟩
  exact (θ_run Cert.ReferenceIdeal.defs _ _).mono (fun _ h => h 0) (Ref.run_main (F := Ideal) m' ρ')

end Cert.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Scan.frame_kernel, Cert.Scan.frame_kernelIdeal, Cert.Scan.frame_referenceIdeal, trivial, Cert.Scan.kernel_eq_reference⟩

end Cert.Proof

end
